-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_label_first_on_top [hPre_label_first_on_top : Cert.Pre_label_first_on_top.Facts] (m : (ℓ : Loc Cert.KernelIdeal.nD Cert.KernelIdeal.τ Cert.KernelIdeal.sig) → Buf (Elt Ideal) ℓ) : Prop :=
  ∀ c : Dev Cert.KernelIdeal.nD,
    (Cert.Pre_label_first_on_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_label_first_on_top [hPre_label_first_on_top : Cert.Pre_label_first_on_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_label_first_on_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_label_first_on_top [hKernelIdeal : Cert.KernelIdeal.Facts] [hPre_label_first_on_top : Cert.Pre_label_first_on_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_label_first_on_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_label_first_on_top [hReferenceIdeal : Cert.ReferenceIdeal.Facts] [hPre_label_first_on_top : Cert.Pre_label_first_on_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_label_first_on_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_label_first_on_top [hKernelIdeal : Cert.KernelIdeal.Facts] [hReferenceIdeal : Cert.ReferenceIdeal.Facts] [hPre_label_first_on_top : Cert.Pre_label_first_on_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_label_first_on_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_label_first_on_top : Cert.Pre_label_first_on_top.Facts),
    quiescent_Kernel (hKernel := hKernel)
    ∧ quiescent_KernelIdeal (hKernelIdeal := hKernelIdeal)
    ∧ quiescent_KernelIdeal_pre_label_first_on_top (hKernelIdeal := hKernelIdeal) (hPre_label_first_on_top := hPre_label_first_on_top)
    ∧ quiescent_ReferenceIdeal (hReferenceIdeal := hReferenceIdeal)
    ∧ quiescent_ReferenceIdeal_pre_label_first_on_top (hReferenceIdeal := hReferenceIdeal) (hPre_label_first_on_top := hPre_label_first_on_top)
    ∧ preserves_Kernel_KernelIdeal
    ∧ algebraic_KernelIdeal_ReferenceIdeal_pre_label_first_on_top (hKernelIdeal := hKernelIdeal) (hReferenceIdeal := hReferenceIdeal) (hPre_label_first_on_top := hPre_label_first_on_top)
-- ==== Pre_label_first_on_top.lean ====
abbrev S1000000x50 : Shape := ⟨2, ![1000000, 50]⟩
abbrev S1000000 : Shape := ⟨1, ![1000000]⟩
abbrev S_ : Shape := ⟨0, ![]⟩
abbrev S1000000x1 : Shape := ⟨2, ![1000000, 1]⟩

class Facts : Prop where
  reducesTo_S1000000x50_S1000000_d1 : S1000000x50.ReducesTo [1] S1000000
  h_S_ : 0 < S_.numel
  bcast_S1000000_S1000000x1_0 : S1000000.BroadcastsInDim S1000000x1 (![0] : Fin 1 → Fin S1000000x1.rank)
  bcast_S1000000x1_S1000000x50_0_1 : S1000000x1.BroadcastsInDim S1000000x50 (![0, 1] : Fin 2 → Fin S1000000x50.rank)

variable [Facts]

def fn {F : FTy → Type} [FloatOps F] (main_arg0 : FVec F S1000000x50 .f32) (main_arg1 : IVec S1000000 32) : IVec S1000000x50 1 :=
  let main_v0 : IVec S1000000x50 32 := iotaInDim S1000000x50 32 1
  let main_cst : FVec F S_ .f32 := constant S_ .f32 0xFF800000#32
  let main_v1 : FVec F S1000000 .f32 := (fun x v => Host.reduce FloatOps.maximumf x v reducesTo_S1000000x50_S1000000_d1 h_S_) main_arg0 main_cst
  let main_v2 : IVec S1000000x1 32 := broadcastInDim S1000000x1 ![0] bcast_S1000000_S1000000x1_0 main_arg1
  let main_v3 : IVec S1000000x50 32 := broadcastInDim S1000000x50 ![0, 1] bcast_S1000000x1_S1000000x50_0_1 main_v2
  let main_v4 : IVec S1000000x50 1 := cmpi .eq main_v0 main_v3
  let main_v5 : FVec F S1000000x1 .f32 := broadcastInDim S1000000x1 ![0] bcast_S1000000_S1000000x1_0 main_v1
  let main_v6 : FVec F S1000000x50 .f32 := broadcastInDim S1000000x50 ![0, 1] bcast_S1000000x1_S1000000x50_0_1 main_v5
  let main_v7 : IVec S1000000x50 1 := cmpf .oeq main_arg0 main_v6
  let main_v8 : IVec S1000000x50 1 := andi main_v4 main_v7
  let main_c : IVec S_ 1 := constantI S_ 1 0#1
  let main_v9 : IVec S1000000 1 := (fun x v => Host.reduce IntOp.ori x v reducesTo_S1000000x50_S1000000_d1 h_S_) main_v8 main_c
  let main_v10 : IVec S1000000x1 32 := broadcastInDim S1000000x1 ![0] bcast_S1000000_S1000000x1_0 main_arg1
  let main_v11 : IVec S1000000x50 32 := broadcastInDim S1000000x50 ![0, 1] bcast_S1000000x1_S1000000x50_0_1 main_v10
  let main_v12 : IVec S1000000x50 1 := cmpi .sge main_v0 main_v11
  let main_v13 : FVec F S1000000x1 .f32 := broadcastInDim S1000000x1 ![0] bcast_S1000000_S1000000x1_0 main_v1
  let main_v14 : FVec F S1000000x50 .f32 := broadcastInDim S1000000x50 ![0, 1] bcast_S1000000x1_S1000000x50_0_1 main_v13
  let main_v15 : IVec S1000000x50 1 := cmpf .olt main_arg0 main_v14
  let main_v16 : IVec S1000000x50 1 := ori main_v12 main_v15
  let main_v17 : IVec S1000000x1 1 := broadcastInDim S1000000x1 ![0] bcast_S1000000_S1000000x1_0 main_v9
  let main_v18 : IVec S1000000x1 1 := noti main_v17
  let main_v19 : IVec S1000000x50 1 := broadcastInDim S1000000x50 ![0, 1] bcast_S1000000x1_S1000000x50_0_1 main_v18
  let main_v20 : IVec S1000000x50 1 := ori main_v16 main_v19
  main_v20
-- ==== Kernel.lean ====
abbrev S1000000x50 : Shape := ⟨2, ![1000000, 50]⟩
abbrev S1000000 : Shape := ⟨1, ![1000000]⟩
abbrev S16x128 : Shape := ⟨2, ![16, 128]⟩
abbrev S50x1000000 : Shape := ⟨2, ![50, 1000000]⟩
abbrev S_ : Shape := ⟨0, ![]⟩
abbrev S56x1015808 : Shape := ⟨2, ![56, 1015808]⟩
abbrev S1015808 : Shape := ⟨1, ![1015808]⟩
abbrev S31x1x32768 : Shape := ⟨3, ![31, 1, 32768]⟩
abbrev S56x32768 : Shape := ⟨2, ![56, 32768]⟩
abbrev S1x1x32768 : Shape := ⟨3, ![1, 1, 32768]⟩
abbrev S1x32768 : Shape := ⟨2, ![1, 32768]⟩
abbrev S32768 : Shape := ⟨1, ![32768]⟩
abbrev S16x1 : Shape := ⟨2, ![16, 1]⟩
abbrev S16x32768 : Shape := ⟨2, ![16, 32768]⟩
abbrev S16 : Shape := ⟨1, ![16]⟩
abbrev S1x16x1 : Shape := ⟨3, ![1, 16, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 15
  | .vmem => 6
  | .smem => 0
  | _ => 0

abbrev bufTy : (tb : Table) → Fin (tcTables nBuf tb) → BufTy
  | .hbm, ⟨0, _⟩ => ⟨S1000000x50, .f32⟩
  | .hbm, ⟨1, _⟩ => ⟨S1000000, .i32⟩
  | .hbm, ⟨2, _⟩ => ⟨S16x128, .f32⟩
  | .hbm, ⟨3, _⟩ => ⟨S50x1000000, .f32⟩
  | .hbm, ⟨4, _⟩ => ⟨S_, .f32⟩
  | .hbm, ⟨5, _⟩ => ⟨S_, .f32⟩
  | .hbm, ⟨6, _⟩ => ⟨S56x1015808, .f32⟩
  | .hbm, ⟨7, _⟩ => ⟨S_, .i32⟩
  | .hbm, ⟨8, _⟩ => ⟨S_, .i32⟩
  | .hbm, ⟨9, _⟩ => ⟨S1015808, .i32⟩
  | .hbm, ⟨10, _⟩ => ⟨S31x1x32768, .i32⟩
  | .hbm, ⟨11, _⟩ => ⟨S16x128, .f32⟩
  | .hbm, ⟨12, _⟩ => ⟨S1x1, .f32⟩
  | .hbm, ⟨13, _⟩ => ⟨S_, .f32⟩
  | .hbm, ⟨14, _⟩ => ⟨S1, .f32⟩
  | .local _ .vmem, ⟨0, _⟩ => ⟨S56x32768, .f32⟩
  | .local _ .vmem, ⟨1, _⟩ => ⟨S56x32768, .f32⟩
  | .local _ .vmem, ⟨2, _⟩ => ⟨S1x1x32768, .i32⟩
  | .local _ .vmem, ⟨3, _⟩ => ⟨S1x1x32768, .i32⟩
  | .local _ .vmem, ⟨4, _⟩ => ⟨S16x128, .f32⟩
  | .local _ .vmem, ⟨5, _⟩ => ⟨S16x128, .f32⟩
  | _, _ => ⟨S1000000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_call0_v0 : Ref sig .tc := ⟨.hbm, 5, rfl⟩
abbrev main_v1 : Ref sig .tc := ⟨.hbm, 6, rfl⟩
abbrev main_c : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S56x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1000000x50 : Shape := ⟨2, ![1000000, 50]⟩
abbrev S1000000 : Shape := ⟨1, ![1000000]⟩
abbrev S16 : Shape := ⟨1, ![16]⟩
abbrev S_ : Shape := ⟨0, ![]⟩
abbrev S1000000x1 : Shape := ⟨2, ![1000000, 1]⟩
abbrev S15 : Shape := ⟨1, ![15]⟩
abbrev S1x1000000 : Shape := ⟨2, ![1, 1000000]⟩
abbrev S15x1 : Shape := ⟨2, ![15, 1]⟩
abbrev S15x1000000 : Shape := ⟨2, ![15, 1000000]⟩
abbrev S1 : Shape := ⟨1, ![1]⟩

abbrev nBuf : Space → Nat
  | .hbm => 73
  | .vmem => 0
  | .smem => 0
  | _ => 0

abbrev bufTy : (tb : Table) → Fin (tcTables nBuf tb) → BufTy
  | .hbm, ⟨0, _⟩ => ⟨S1000000x50, .f32⟩
  | .hbm, ⟨1, _⟩ => ⟨S1000000, .i32⟩
  | .hbm, ⟨2, _⟩ => ⟨S16, .f32⟩
  | .hbm, ⟨3, _⟩ => ⟨S_, .f32⟩
  | .hbm, ⟨4, _⟩ => ⟨S1000000, .f32⟩
  | .hbm, ⟨5, _⟩ => ⟨S_, .f32⟩
  | .hbm, ⟨6, _⟩ => ⟨S1000000, .f32⟩
  | .hbm, ⟨7, _⟩ => ⟨S1000000, .f32⟩
  | .hbm, ⟨8, _⟩ => ⟨S1000000x1, .f32⟩
  | .hbm, ⟨9, _⟩ => ⟨S1000000x50, .f32⟩
  | .hbm, ⟨10, _⟩ => ⟨S1000000x50, .f32⟩
  | .hbm, ⟨11, _⟩ => ⟨S1000000x50, .f32⟩
  | .hbm, ⟨12, _⟩ => ⟨S_, .f32⟩
  | .hbm, ⟨13, _⟩ => ⟨S1000000, .f32⟩
  | .hbm, ⟨14, _⟩ => ⟨S1000000x1, .f32⟩
  | .hbm, ⟨15, _⟩ => ⟨S1000000x50, .f32⟩
  | .hbm, ⟨16, _⟩ => ⟨S1000000x50, .f32⟩
  | .hbm, ⟨17, _⟩ => ⟨S_, .f32⟩
  | .hbm, ⟨18, _⟩ => ⟨S1000000, .f32⟩
  | .hbm, ⟨19, _⟩ => ⟨S1000000x50, .i32⟩
  | .hbm, ⟨20, _⟩ => ⟨S_, .f32⟩
  | .hbm, ⟨21, _⟩ => ⟨S_, .i32⟩
  | .hbm, ⟨22, _⟩ => ⟨S1000000, .f32⟩
  | .hbm, ⟨23, _⟩ => ⟨S1000000, .i32⟩
  | .hbm, ⟨24, _⟩ => ⟨S1000000, .i1⟩
  | .hbm, ⟨25, _⟩ => ⟨S1000000, .f32⟩
  | .hbm, ⟨26, _⟩ => ⟨S15, .f32⟩
  | .hbm, ⟨27, _⟩ => ⟨S15, .f32⟩
  | .hbm, ⟨28, _⟩ => ⟨S1x1000000, .f32⟩
  | .hbm, ⟨29, _⟩ => ⟨S15x1, .f32⟩
  | .hbm, ⟨30, _⟩ => ⟨S15x1000000, .f32⟩
  | .hbm, ⟨31, _⟩ => ⟨S15x1000000, .f32⟩
  | .hbm, ⟨32, _⟩ => ⟨S15x1000000, .i1⟩
  | .hbm, ⟨33, _⟩ => ⟨S1x1000000, .f32⟩
  | .hbm, ⟨34, _⟩ => ⟨S15x1, .f32⟩
  | .hbm, ⟨35, _⟩ => ⟨S15x1000000, .f32⟩
  | .hbm, ⟨36, _⟩ => ⟨S15x1000000, .f32⟩
  | .hbm, ⟨37, _⟩ => ⟨S15x1000000, .i1⟩
  | .hbm, ⟨38, _⟩ => ⟨S15x1000000, .i1⟩
  | .hbm, ⟨39, _⟩ => ⟨S15x1000000, .f32⟩
  | .hbm, ⟨40, _⟩ => ⟨S_, .f32⟩
  | .hbm, ⟨41, _⟩ => ⟨S15, .f32⟩
  | .hbm, ⟨42, _⟩ => ⟨S_, .f32⟩
  | .hbm, ⟨43, _⟩ => ⟨S15, .f32⟩
  | .hbm, ⟨44, _⟩ => ⟨S15, .f32⟩
  | .hbm, ⟨45, _⟩ => ⟨S_, .f32⟩
  | .hbm, ⟨46, _⟩ => ⟨S15, .f32⟩
  | .hbm, ⟨47, _⟩ => ⟨S15, .f32⟩
  | .hbm, ⟨48, _⟩ => ⟨S1x1000000, .f32⟩
  | .hbm, ⟨49, _⟩ => ⟨S15x1000000, .f32⟩
  | .hbm, ⟨50, _⟩ => ⟨S15x1000000, .f32⟩
  | .hbm, ⟨51, _⟩ => ⟨S_, .f32⟩
  | .hbm, ⟨52, _⟩ => ⟨S15, .f32⟩
  | .hbm, ⟨53, _⟩ => ⟨S15, .f32⟩
  | .hbm, ⟨54, _⟩ => ⟨S1x1000000, .f32⟩
  | .hbm, ⟨55, _⟩ => ⟨S15x1000000, .f32⟩
  | .hbm, ⟨56, _⟩ => ⟨S15x1000000, .f32⟩
  | .hbm, ⟨57, _⟩ => ⟨S_, .f32⟩
  | .hbm, ⟨58, _⟩ => ⟨S15, .f32⟩
  | .hbm, ⟨59, _⟩ => ⟨S15, .f32⟩
  | .hbm, ⟨60, _⟩ => ⟨S_, .f32⟩
  | .hbm, ⟨61, _⟩ => ⟨S15, .f32⟩
  | .hbm, ⟨62, _⟩ => ⟨S15, .i1⟩
  | .hbm, ⟨63, _⟩ => ⟨S15, .f32⟩
  | .hbm, ⟨64, _⟩ => ⟨S15, .f32⟩
  | .hbm, ⟨65, _⟩ => ⟨S15, .f32⟩
  | .hbm, ⟨66, _⟩ => ⟨S_, .f32⟩
  | .hbm, ⟨67, _⟩ => ⟨S_, .f32⟩
  | .hbm, ⟨68, _⟩ => ⟨S15, .f32⟩
  | .hbm, ⟨69, _⟩ => ⟨S15, .f32⟩
  | .hbm, ⟨70, _⟩ => ⟨S_, .f32⟩
  | .hbm, ⟨71, _⟩ => ⟨S_, .f32⟩
  | .hbm, ⟨72, _⟩ => ⟨S1, .f32⟩
  | _, _ => ⟨S1000000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_call1_v0 : Ref sig .tc := ⟨.hbm, 67, rfl⟩
abbrev main_call1_v1 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Proof.Rows.lean ====
module

public import Idealize.ShloMosaic.PureOps.Ideal.Laws
public import Idealize.ShloMosaic.Lib.IdealHost

/-! One row of scores, over the extended reals: the confidence and the accuracy of the kernel, which
exponentiates the scores as they are, against those of the reference, which takes the row's greatest
score away first. -/

@[expose] public section

noncomputable section

namespace Cert.Ece

open Idealize.ShloMosaic

/-- The greatest entry of a finite family (`⊥` of an empty one). -/
def top {n : ℕ} (x : Fin n → EReal) : EReal := Finset.univ.fold max ⊥ x

theorem le_top {n : ℕ} (x : Fin n → EReal) (j : Fin n) : x j ≤ top x := by
  unfold top
  rw [Finset.le_fold_max]
  exact Or.inr ⟨j, Finset.mem_univ _, le_refl _⟩

theorem top_le {n : ℕ} (x : Fin n → EReal) (c : EReal) (h : ∀ j, x j ≤ c) : top x ≤ c := by
  unfold top
  rw [Finset.fold_max_le]
  exact ⟨bot_le, fun j _ => h j⟩

theorem top_eq {n : ℕ} (x : Fin n → EReal) (J : Fin n) (h : ∀ j, x j ≤ x J) : top x = x J :=
  le_antisymm (top_le x _ h) (le_top x J)

theorem exists_top {n : ℕ} (x : Fin (n + 1) → EReal) : ∃ J, top x = x J := by
  obtain ⟨J, _, hJ⟩ := Finset.exists_max_image (Finset.univ : Finset (Fin (n + 1))) x ⟨0, Finset.mem_univ _⟩
  exact ⟨J, top_eq x J fun j => hJ j (Finset.mem_univ _)⟩

/-- Two to the power `v / log 2` is the exponential of `v`. -/
theorem exp2_log2e (v : EReal) : Ideal.exp2 (v * (((Real.log 2)⁻¹ : ℝ) : EReal)) = Ideal.exp v := by
  have hl : (0 : ℝ) < (Real.log 2)⁻¹ := inv_pos.mpr (Real.log_pos (by norm_num))
  induction v with
  | bot => rw [EReal.bot_mul_coe_of_pos hl]; rfl
  | top => rw [EReal.top_mul_coe_of_pos hl]; rfl
  | coe r =>
    rw [← EReal.coe_mul]
    show ((Real.rpow 2 (r * (Real.log 2)⁻¹) : ℝ) : EReal) = ((Real.exp r : ℝ) : EReal)
    have h2 : (0 : ℝ) < 2 := by norm_num
    have hl' : Real.log 2 ≠ 0 := ne_of_gt (Real.log_pos (by norm_num))
    have : Real.rpow 2 (r * (Real.log 2)⁻¹) = Real.exp r := by
      rw [Real.rpow_eq_pow, Real.rpow_def_of_pos h2]
      congr 1
      field_simp
    rw [this]

theorem exp_bot : Ideal.exp ⊥ = 0 := rfl
theorem exp_top : Ideal.exp ⊤ = ⊤ := rfl
theorem exp_coe (r : ℝ) : Ideal.exp (r : EReal) = ((Real.exp r : ℝ) : EReal) := rfl

theorem exp_nonneg (v : EReal) : 0 ≤ Ideal.exp v := by
  induction v with
  | bot => exact le_refl _
  | top => rw [exp_top]; exact _root_.le_top
  | coe r => rw [exp_coe]; exact EReal.coe_nonneg.mpr (Real.exp_pos r).le

/-- The kernel's confidence of a row. -/
def kconf {n : ℕ} (y : Fin n → EReal) : EReal :=
  top (fun j => Ideal.exp (y j)) * Ideal.div 1 (∑ j, Ideal.exp (y j))

/-- Whether the kernel counts a row with the label `b` as right: the label's exponential is the greatest. -/
def kright {n : ℕ} (y : Fin n → EReal) (b : BitVec 32) : Prop :=
  top (fun j => if BitVec.ofNat 32 j.val = b then Ideal.exp (y j) else 0) = top (fun j => Ideal.exp (y j))

instance {n : ℕ} (y : Fin n → EReal) (b : BitVec 32) : Decidable (kright y b) :=
  inferInstanceAs (Decidable (_ = _))

/-- The reference's share of class `j`. -/
def share {n : ℕ} (x : Fin n → EReal) (j : Fin n) : EReal :=
  Ideal.div (Ideal.exp (x j - max ⊥ (top x))) (∑ k, Ideal.exp (x k - max ⊥ (top x)))

/-- The reference's confidence of a row. -/
def rconf {n : ℕ} (x : Fin n → EReal) : EReal := top (share x)

/-- What an arg-max of the shares answers: the first class with the greatest share (anything where no class has
a share). -/
def IsArg {n : ℕ} (p : Fin n → EReal) (w : BitVec 32) : Prop :=
  (∃ k : Fin n, w = BitVec.ofNat 32 k.val ∧ ∀ j, p j < p k ∨ (p j = p k ∧ k.val ≤ j.val)) ∨ ∀ j, p j = ⊥

/-- No class before the label's shares with it the greatest score of the row. -/
def LabelFirst {n : ℕ} (x : Fin n → EReal) (b : BitVec 32) : Prop :=
  (∀ j : Fin n, BitVec.ofNat 32 j.val = b → x j = top x → ∀ i : Fin n, i.val < j.val → x i < top x)

/-- Whether a confidence lies in the bin `(lo, up]`. -/
def Hit (lo up c : EReal) : Prop := lo < c ∧ c ≤ up

instance (lo up c : EReal) : Decidable (Hit lo up c) := inferInstanceAs (Decidable (lo < c ∧ c ≤ up))

/-- The kernel's row: the scores, and `⊥` in the six classes added. -/
def padded (x : Fin 50 → EReal) (j : Fin 56) : EReal := if h : j.val < 50 then x ⟨j.val, h⟩ else ⊥

theorem padded_of_lt (x : Fin 50 → EReal) (j : Fin 50) : padded x (Fin.castLE (by omega) j) = x j := by
  unfold padded
  rw [dif_pos (show (Fin.castLE (by omega : 50 ≤ 56) j).val < 50 from j.isLt)]
  rfl

theorem sum_padded (f : EReal → EReal) (hf : f ⊥ = 0) (x : Fin 50 → EReal) :
    ∑ j, f (padded x j) = ∑ j, f (x j) := by
  rw [Fin.sum_univ_add (a := 50) (b := 6) (fun j => f (padded x j))]
  have h0 : ∑ i : Fin 6, f (padded x (Fin.natAdd 50 i)) = 0 :=
    Finset.sum_eq_zero fun i _ => by
      have : padded x (Fin.natAdd 50 i) = ⊥ := by
        unfold padded
        rw [dif_neg (by simp)]
      rw [this, hf]
  rw [h0, add_zero]
  exact Finset.sum_congr rfl fun i _ => congrArg f (padded_of_lt x i)

theorem top_padded (x : Fin 50 → EReal) : top (fun j => Ideal.exp (padded x j)) = top (fun j => Ideal.exp (x j)) := by
  apply le_antisymm
  · apply top_le
    intro j
    by_cases h : j.val < 50
    · unfold padded
      rw [dif_pos h]
      exact Ece.le_top (fun j => Ideal.exp (x j)) ⟨j.val, h⟩
    · unfold padded
      rw [dif_neg h, exp_bot]
      exact (exp_nonneg _).trans (Ece.le_top (fun j => Ideal.exp (x j)) 0)
  · apply top_le
    intro j
    have := Ece.le_top (fun j => Ideal.exp (padded x j)) (Fin.castLE (by omega) j)
    simp only [padded_of_lt] at this
    exact this

theorem kconf_padded (x : Fin 50 → EReal) : kconf (padded x) = kconf x := by
  unfold kconf
  rw [top_padded, sum_padded Ideal.exp exp_bot]

/-- A row with no score at all has the confidence 0. -/
theorem kconf_bot {n : ℕ} (y : Fin (n + 1) → EReal) (h : ∀ j, y j = ⊥) : kconf y = 0 := by
  unfold kconf
  have : top (fun j => Ideal.exp (y j)) = 0 := by
    obtain ⟨J, hJ⟩ := exists_top fun j => Ideal.exp (y j)
    rw [hJ, h J, exp_bot]
  rw [this, zero_mul]

/-- A row that holds `⊤` has the confidence 0 in the kernel. -/
theorem kconf_top {n : ℕ} (y : Fin n → EReal) (J : Fin n) (h : y J = ⊤) : kconf y = 0 := by
  unfold kconf
  have h1 : top (fun j => Ideal.exp (y j)) = ⊤ := by
    refine top_le_iff.mp ?_
    have := Ece.le_top (fun j => Ideal.exp (y j)) J
    simpa only [h, exp_top] using this
  have h2 : ∑ j, Ideal.exp (y j) = ⊤ := by
    refine top_le_iff.mp ?_
    have := Finset.single_le_sum (f := fun j => Ideal.exp (y j)) (fun i _ => exp_nonneg (y i)) (Finset.mem_univ J)
    simpa only [h, exp_top] using this
  rw [h1, h2]
  unfold Ideal.div
  rw [if_neg EReal.top_ne_zero, EReal.inv_top, mul_zero, mul_zero]

/-- A row none of whose scores is finite above its greatest has no share in the reference. -/
theorem rconf_bot (x : Fin 50 → EReal) (h : ∀ j, x j - max ⊥ (top x) = ⊥) : rconf x = ⊥ := by
  have hs : ∀ j, share x j = ⊥ := fun j => by
    unfold share
    simp only [h, exp_bot, Finset.sum_const_zero]
    unfold Ideal.div
    simp
  obtain ⟨J, hJ⟩ := exists_top (share x)
  unfold rconf
  rw [hJ, hs J]

/-- The real a score's exponential is, where no score is `⊤`. -/
def rexp (v : EReal) : ℝ := if v = ⊥ then 0 else Real.exp v.toReal

theorem exp_eq_rexp (v : EReal) (h : v ≠ ⊤) : Ideal.exp v = ((rexp v : ℝ) : EReal) := by
  induction v with
  | bot => simp [rexp, exp_bot]
  | top => exact absurd rfl h
  | coe r => simp [rexp, exp_coe]

theorem exp_sub_eq_rexp (v : EReal) (h : v ≠ ⊤) (M : ℝ) :
    Ideal.exp (v - (M : EReal)) = ((rexp v * Real.exp (-M) : ℝ) : EReal) := by
  induction v with
  | bot => simp [rexp, exp_bot]
  | top => exact absurd rfl h
  | coe r =>
    rw [← EReal.coe_sub, exp_coe]
    simp only [rexp, EReal.coe_ne_bot, if_false, EReal.toReal_coe]
    rw [← Real.exp_add, sub_eq_add_neg]

theorem rexp_nonneg (v : EReal) : 0 ≤ rexp v := by
  unfold rexp
  split
  · exact le_refl _
  · exact (Real.exp_pos _).le

theorem rexp_le (v : EReal) (M : ℝ) (h : v ≤ (M : EReal)) : rexp v ≤ Real.exp M := by
  induction v with
  | bot => simp [rexp, (Real.exp_pos M).le]
  | top => simp at h
  | coe r =>
    simp only [rexp, EReal.coe_ne_bot, if_false, EReal.toReal_coe]
    exact Real.exp_le_exp.mpr (EReal.coe_le_coe_iff.mp h)

theorem rexp_eq_iff (v : EReal) (M : ℝ) (h : v ≤ (M : EReal)) : rexp v = Real.exp M ↔ v = (M : EReal) := by
  induction v with
  | bot => simp [rexp, (Real.exp_pos M).ne]
  | top => simp at h
  | coe r =>
    simp only [rexp, EReal.coe_ne_bot, if_false, EReal.toReal_coe]
    rw [Real.exp_eq_exp, EReal.coe_eq_coe_iff]

theorem coe_sum {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

section Finite

variable (x : Fin 50 → EReal) (M : ℝ) (hM : top x = (M : EReal))
include hM

theorem le_M (j : Fin 50) : x j ≤ (M : EReal) := hM ▸ Ece.le_top x j

theorem ne_top' (j : Fin 50) : x j ≠ ⊤ := fun h => by
  have := le_M x M hM j
  rw [h] at this
  simp at this

theorem sum_pos : 0 < ∑ j, rexp (x j) := by
  obtain ⟨J, hJ⟩ := exists_top x
  have hJ' : rexp (x J) = Real.exp M := (rexp_eq_iff _ _ (le_M x M hM J)).mpr (hJ ▸ hM)
  refine lt_of_lt_of_le (Real.exp_pos M) ?_
  rw [← hJ']
  exact Finset.single_le_sum (f := fun j => rexp (x j)) (fun i _ => rexp_nonneg (x i)) (Finset.mem_univ J)

theorem top_exp : top (fun j => Ideal.exp (x j)) = ((Real.exp M : ℝ) : EReal) := by
  obtain ⟨J, hJ⟩ := exists_top x
  have hJ' : rexp (x J) = Real.exp M := (rexp_eq_iff _ _ (le_M x M hM J)).mpr (hJ ▸ hM)
  rw [top_eq (fun j => Ideal.exp (x j)) J, exp_eq_rexp _ (ne_top' x M hM J), hJ']
  intro j
  simp only [exp_eq_rexp _ (ne_top' x M hM _)]
  rw [hJ']
  exact EReal.coe_le_coe_iff.mpr (rexp_le _ _ (le_M x M hM j))

theorem kconf_finite : kconf x = ((Real.exp M / ∑ j, rexp (x j) : ℝ) : EReal) := by
  have hS := sum_pos x M hM
  unfold kconf
  rw [top_exp x M hM]
  simp only [exp_eq_rexp _ (ne_top' x M hM _)]
  rw [coe_sum, Ideal.div_coe hS.ne', one_mul, ← EReal.coe_mul, mul_one_div]

theorem share_finite (j : Fin 50) : share x j = ((rexp (x j) / ∑ k, rexp (x k) : ℝ) : EReal) := by
  have hS := sum_pos x M hM
  have hE := Real.exp_pos (-M)
  unfold share
  rw [hM, max_eq_right bot_le]
  simp only [exp_sub_eq_rexp _ (ne_top' x M hM _)]
  rw [coe_sum, ← Finset.sum_mul, Ideal.div_coe (mul_pos hS hE).ne', ← EReal.coe_mul]
  congr 1
  field_simp

theorem share_le_iff (J j : Fin 50) (hJ : x J = (M : EReal)) : share x j ≤ share x J := by
  have hS := sum_pos x M hM
  rw [share_finite x M hM, share_finite x M hM, EReal.coe_le_coe_iff, (rexp_eq_iff _ _ (le_M x M hM J)).mpr hJ]
  exact div_le_div_of_nonneg_right (rexp_le _ _ (le_M x M hM j)) hS.le

theorem rconf_finite : rconf x = ((Real.exp M / ∑ j, rexp (x j) : ℝ) : EReal) := by
  obtain ⟨J, hJ⟩ := exists_top x
  have hJM : x J = (M : EReal) := hJ ▸ hM
  unfold rconf
  rw [top_eq (share x) J fun j => share_le_iff x M hM J j hJM, share_finite x M hM,
    (rexp_eq_iff _ _ (le_M x M hM J)).mpr hJM]

theorem share_eq_top_iff (j : Fin 50) : share x j = rconf x ↔ x j = (M : EReal) := by
  have hS := sum_pos x M hM
  rw [rconf_finite x M hM, share_finite x M hM, EReal.coe_eq_coe_iff, div_left_inj' hS.ne']
  exact rexp_eq_iff _ _ (le_M x M hM j)

/-- The kernel counts the row as right exactly where the label is a class with the greatest score. -/
theorem kright_iff (b : BitVec 32) :
    kright (padded x) b ↔ ∃ j : Fin 50, BitVec.ofNat 32 j.val = b ∧ x j = (M : EReal) := by
  unfold kright
  rw [top_padded, top_exp x M hM]
  constructor
  · intro h
    obtain ⟨J, hJ⟩ := exists_top fun j : Fin 56 => if BitVec.ofNat 32 j.val = b then Ideal.exp (padded x j) else 0
    rw [hJ] at h
    by_cases hb : BitVec.ofNat 32 J.val = b
    · rw [if_pos hb] at h
      by_cases hj : J.val < 50
      · refine ⟨⟨J.val, hj⟩, hb, ?_⟩
        unfold padded at h
        rw [dif_pos hj, exp_eq_rexp _ (ne_top' x M hM _), EReal.coe_eq_coe_iff] at h
        exact (rexp_eq_iff _ _ (le_M x M hM _)).mp h
      · unfold padded at h
        rw [dif_neg hj, exp_bot] at h
        exact absurd h.symm (EReal.coe_ne_zero.mpr (Real.exp_pos M).ne')
    · rw [if_neg hb] at h
      exact absurd h.symm (EReal.coe_ne_zero.mpr (Real.exp_pos M).ne')
  · rintro ⟨j, hb, hj⟩
    apply le_antisymm
    · apply top_le
      intro i
      have hi : (if BitVec.ofNat 32 i.val = b then Ideal.exp (padded x i) else 0) ≤ Ideal.exp (padded x i) := by
        split
        · exact le_refl _
        · exact exp_nonneg _
      refine hi.trans ?_
      rw [← top_exp x M hM, ← top_padded]
      exact Ece.le_top (fun j => Ideal.exp (padded x j)) i
    · have := Ece.le_top (fun j : Fin 56 => if BitVec.ofNat 32 j.val = b then Ideal.exp (padded x j) else 0)
        (Fin.castLE (by omega) j)
      rw [padded_of_lt, Fin.val_castLE, if_pos hb, exp_eq_rexp _ (ne_top' x M hM _),
        (rexp_eq_iff _ _ (le_M x M hM j)).mpr hj] at this
      exact this

/-- The reference counts the row as right exactly where the kernel does. -/
theorem right_iff (b w : BitVec 32) (hp : LabelFirst x b) (hw : IsArg (share x) w) :
    w = b ↔ kright (padded x) b := by
  rw [kright_iff x M hM]
  obtain ⟨J, hJ⟩ := exists_top x
  have hJM : x J = (M : EReal) := hJ ▸ hM
  rcases hw with ⟨k, hk, hmin⟩ | hw
  · have hkM : x k = (M : EReal) := by
      refine (share_eq_top_iff x M hM k).mp ?_
      refine le_antisymm (Ece.le_top (share x) k) (top_le _ _ fun j => ?_)
      rcases hmin j with h | h
      · exact h.le
      · exact h.1.le
    constructor
    · intro h
      exact ⟨k, hk ▸ h, hkM⟩
    · rintro ⟨j, hj, hjM⟩
      have hle : k.val ≤ j.val := by
        rcases hmin j with h | h
        · rw [(share_eq_top_iff x M hM k).mpr hkM, (share_eq_top_iff x M hM j).mpr hjM] at h
          exact absurd h (lt_irrefl _)
        · exact h.2
      rcases Nat.lt_or_ge k.val j.val with hlt | hge
      · have := hp j hj (hjM.trans hM.symm) k hlt
        rw [hM, hkM] at this
        exact absurd this (lt_irrefl _)
      · have : k.val = j.val := le_antisymm hle hge
        rw [hk, this, hj]
  · have := hw J
    rw [share_finite x M hM] at this
    exact absurd this (EReal.coe_ne_bot _)

theorem kconf_le_one : kconf x ≤ 1 := by
  have hS := sum_pos x M hM
  obtain ⟨J, hJ⟩ := exists_top x
  have hJM : rexp (x J) = Real.exp M := (rexp_eq_iff _ _ (le_M x M hM J)).mpr (hJ ▸ hM)
  rw [kconf_finite x M hM, ← EReal.coe_one, EReal.coe_le_coe_iff, div_le_one hS, ← hJM]
  exact Finset.single_le_sum (f := fun j => rexp (x j)) (fun i _ => rexp_nonneg (x i)) (Finset.mem_univ J)

end Finite

/-- Either the row's greatest score is a real, or the kernel's confidence is 0 and the reference's is `⊥`. -/
theorem finite_or (x : Fin 50 → EReal) : (∃ M : ℝ, top x = (M : EReal)) ∨ (kconf x = 0 ∧ rconf x = ⊥) := by
  induction h : top x with
  | bot =>
    have hb : ∀ j, x j = ⊥ := fun j => le_bot_iff.mp (h ▸ Ece.le_top x j)
    refine Or.inr ⟨kconf_bot x hb, rconf_bot x fun j => ?_⟩
    rw [hb j, sub_eq_add_neg, EReal.bot_add]
  | top =>
    obtain ⟨J, hJ⟩ := exists_top x
    refine Or.inr ⟨kconf_top x J (hJ ▸ h), rconf_bot x fun j => ?_⟩
    rw [h, max_eq_right bot_le, sub_eq_add_neg, EReal.neg_top, EReal.add_bot]
  | coe M => exact Or.inl ⟨M, rfl⟩

/-- No row's confidence is above 1. -/
theorem kconf_le (x : Fin 50 → EReal) : kconf x ≤ 1 := by
  rcases finite_or x with ⟨M, hM⟩ | h
  · exact kconf_le_one x M hM
  · rw [h.1]; exact zero_le_one

/-- In a bin whose lower bound is not negative lie the same rows, with the same confidence and accuracy. -/
theorem row_hit (x : Fin 50 → EReal) (b w : BitVec 32) (hp : LabelFirst x b) (hw : IsArg (share x) w)
    (lo up : EReal) (hlo : 0 ≤ lo) :
    (Hit lo up (rconf x) ↔ Hit lo up (kconf (padded x)))
      ∧ (Hit lo up (kconf (padded x)) → rconf x = kconf (padded x) ∧ (w = b ↔ kright (padded x) b)) := by
  rw [kconf_padded]
  rcases finite_or x with ⟨M, hM⟩ | h
  · have he : rconf x = kconf x := (rconf_finite x M hM).trans (kconf_finite x M hM).symm
    rw [he]
    exact ⟨Iff.rfl, fun _ => ⟨rfl, right_iff x M hM b w hp hw⟩⟩
  · rw [h.1, h.2]
    exact ⟨⟨fun h => absurd h.1 not_lt_bot, fun h => absurd h.1 (not_lt.mpr hlo)⟩,
      fun h => absurd h.1 (not_lt.mpr hlo)⟩

end Cert.Ece
-- ==== Proof.Payloads.lean ====
module

public import proofs.«01_k».proof.Defs
public import proofs.«01_k».proof.Proof.Rows
public import proofs.«01_k».proof.Proof.Gen.KernelIdeal.Frame
public import Idealize.ShloMosaic.Lib.Pointwise
public import Idealize.ShloMosaic.Lib.Claim

/-! What each value of the kernel body is at one index, over the extended reals. -/

@[expose] public section

set_option maxRecDepth 16384

noncomputable section

namespace Cert.KernelIdeal.Ece

open Idealize.ShloMosaic Idealize.ShloMosaic.TcCoe Idealize.SL.Sem Cert.KernelIdeal Cert.KernelIdeal.Gen

open Cert.Ece

theorem neg_inf : Ideal.ofBits .f32 0xFF800000#32 = ⊥ := by
  simp [Ideal.ofBits, Ideal.ieee]

/-- The scores of lane `l` of a block. -/
def lane (X : Vec Ideal S56x32768 .f32) (l : Fin 32768) (j : Fin 56) : EReal := X (ix2 j l)

theorem pay6_at (X : Vec Ideal S56x32768 .f32) (j : Fin 56) (l : Fin 32768) :
    k0_pay6 X (ix2 j l) = Ideal.exp (lane X l j) := by
  pointwise [k0_pay6]
  have h : (Named.named κ "log2e" 0x3FB8AA3B#32 : Ideal .f32) = (((Real.log 2)⁻¹ : ℝ) : EReal) :=
    IdealRules.named_const.ideal_named_scalar _ _ _ _ rfl
  rw [h]
  exact exp2_log2e _

theorem pay7_at (X : Vec Ideal S56x32768 .f32) (l : Fin 32768) :
    k0_pay7 X (ix2 0 l) = top fun j => Ideal.exp (lane X l j) := by
  unfold k0_pay7
  have h := fun j => pay6_at X j l
  generalize k0_pay6 X = P at h ⊢
  pointwise
  rw [neg_inf]
  unfold top
  simp only [h]

theorem pay8_of (P : FVec Ideal S56x32768 .f32) (Q : FVec Ideal S1x32768 .f32) (l : Fin 32768) :
    mulf Q (divf (broadcast S1x32768 (Scalar.ofBits .f32 0x3F800000#32))
      (shapeCast S1x32768 (multiReduction .add [0] S32768 P 0x00000000#32 reduces_S56x32768_S32768 (.inl rfl) rfl) shapeCasts_S32768_S1x32768)) (ix2 0 l)
      = Q (ix2 0 l) * Ideal.div 1 (∑ j, P (ix2 j l)) := by
  pointwise

theorem pay8_at (X : Vec Ideal S56x32768 .f32) (l : Fin 32768) :
    k0_pay8 X (ix2 0 l) = kconf (lane X l) := by
  refine (pay8_of (k0_pay6 X) (k0_pay7 X) l).trans ?_
  rw [pay7_at]
  simp only [pay6_at]
  unfold kconf
  rfl

theorem select_ofBool {α : Type} (p : Prop) [Decidable p] (a b : α) :
    Scalar.select (BitVec.ofBool (decide p)) a b = if p then a else b := by
  by_cases h : p <;> simp [h, Scalar.select]

theorem label_at (L : Vec Ideal S1x1x32768 .i32) (l : Fin 32768) :
    shapeCast S1x32768 L shapeCasts_S1x1x32768_S1x32768 (ix2 0 l) = L (ix3 0 0 l) := by
  pointwise

theorem max_at (V : FVec Ideal S56x32768 .f32) (l : Fin 32768) :
    shapeCast S1x32768 (multiReduction .maximumf [0] S32768 V 0xFF800000#32 reduces_S56x32768_S32768 (.inl rfl) rfl)
      shapeCasts_S32768_S1x32768 (ix2 0 l) = top fun j => V (ix2 j l) := by
  pointwise
  rw [neg_inf]
  unfold top
  rfl

theorem masked_at (P : FVec Ideal S56x32768 .f32) (W : IVec S1x32768 32) (j : Fin 56) (l : Fin 32768) :
    select (cmpi .eq (iota .tc S56x32768 32 [0] iota_S56x32768_d0_w32)
          (broadcastTo S56x32768 W broadcasts_S1x32768_S56x32768)) P
          (broadcast S56x32768 (Scalar.ofBits .f32 0x00000000#32)) (ix2 j l)
      = if BitVec.ofNat 32 j.val = W (ix2 0 l) then P (ix2 j l) else 0 := by
  pointwise
  rw [← select_ofBool]
  rfl

theorem right_at (A Q : FVec Ideal S1x32768 .f32) (l : Fin 32768) :
    select (cmpf .oeq A Q) (broadcast S1x32768 (Scalar.ofBits .f32 0x3F800000#32 : Ideal .f32))
      (broadcast S1x32768 (Scalar.ofBits .f32 0x00000000#32)) (ix2 0 l)
      = if A (ix2 0 l) = Q (ix2 0 l) then (1 : EReal) else 0 := by
  pointwise

theorem pay9_at (X : Vec Ideal S56x32768 .f32) (L : Vec Ideal S1x1x32768 .i32) (l : Fin 32768) :
    k0_pay9 X L (ix2 0 l) = if kright (lane X l) (L (ix3 0 0 l)) then 1 else 0 := by
  refine (right_at _ (k0_pay7 X) l).trans ?_
  rw [max_at, pay7_at]
  have e := funext fun j => (masked_at (k0_pay6 X) (shapeCast S1x32768 L shapeCasts_S1x1x32768_S1x32768) j l).trans
    (by rw [label_at, pay6_at] :
      _ = if BitVec.ofNat 32 j.val = L (ix3 0 0 l) then Ideal.exp (lane X l j) else 0)
  exact congrArg (fun f => if top f = top (fun j => Ideal.exp (lane X l j)) then (1 : EReal) else 0) e

theorem pay10_of (P : FVec Ideal S1x32768 .f32) (lo up : Vec Ideal S16x1 .f32) (b : Fin 16) (l : Fin 32768) :
    andi (cmpf .ogt (broadcastTo S16x32768 P broadcasts_S1x32768_S16x32768) (broadcastTo S16x32768 lo broadcasts_S16x1_S16x32768))
      (cmpf .ole (broadcastTo S16x32768 P broadcasts_S1x32768_S16x32768) (broadcastTo S16x32768 up broadcasts_S16x1_S16x32768)) (ix2 b l)
      = BitVec.ofBool (decide (Hit (lo (ix2 b 0)) (up (ix2 b 0)) (P (ix2 0 l)))) := by
  pointwise
  unfold Hit
  by_cases h1 : lo (ix2 b 0) < P (ix2 0 l) <;> by_cases h2 : P (ix2 0 l) ≤ up (ix2 b 0) <;> simp [h1, h2, IntOp.andi]

theorem pay10_at (X : Vec Ideal S56x32768 .f32) (lo up : Vec Ideal S16x1 .f32) (b : Fin 16) (l : Fin 32768) :
    k0_pay10 X lo up (ix2 b l) = BitVec.ofBool (decide (Hit (lo (ix2 b 0)) (up (ix2 b 0)) (kconf (lane X l)))) := by
  refine (pay10_of (k0_pay8 X) lo up b l).trans ?_
  rw [pay8_at]

theorem pay1_at (M : IVec S16x32768 1) (c1 c0 : Ideal .f32) (v : Vec Ideal S16x1 .f32) (b : Fin 16) :
    k0_pay1 M c1 c0 v (ix2 b 0) = v (ix2 b 0) + ∑ l, Scalar.select (M (ix2 b l)) c1 c0 := by
  pointwise [k0_pay1]

theorem pay2_at (M : IVec S16x32768 1) (C : FVec Ideal S1x32768 .f32) (v : Vec Ideal S16x1 .f32) (b : Fin 16) :
    k0_pay2 C M v (ix2 b 0) = v (ix2 b 0) + ∑ l, Scalar.select (M (ix2 b l)) (C (ix2 0 l)) (0 : EReal) := by
  pointwise [k0_pay2]

theorem pay3_at (M : IVec S16x32768 1) (C : FVec Ideal S1x32768 .f32) (v : Vec Ideal S16x1 .f32) (b : Fin 16) :
    k0_pay3 C M v (ix2 b 0) = v (ix2 b 0) + ∑ l, Scalar.select (M (ix2 b l)) (C (ix2 0 l)) (0 : EReal) := by
  pointwise [k0_pay3]

/-- What a bin with `n` rows, the sum `s` of their confidences and the sum `a` of their accuracies adds. -/
def binTerm (n s a : EReal) : EReal :=
  if 0 < n then max (Ideal.div s (max n 1) - Ideal.div a (max n 1)) (-(Ideal.div s (max n 1) - Ideal.div a (max n 1)))
    * Ideal.div n (Ideal.ofBits .f32 0x49742400#32) else 0

theorem pay4_at (n s a : Vec Ideal S16x1 .f32) (b : Fin 16) :
    k0_pay4 n s a (ix2 b 0) = ∑ b' : Fin 16, binTerm (n (ix2 b' 0)) (s (ix2 b' 0)) (a (ix2 b' 0)) := by
  pointwise [k0_pay4]
  refine Finset.sum_congr rfl fun k _ => ?_
  rw [Fin.sum_univ_one]
  rfl

theorem pay5_at (b : Fin 16) (k : Fin 128) : k0_pay5 (F := Ideal) (ix2 b k) = 0 := by
  pointwise [k0_pay5]

end Cert.KernelIdeal.Ece
-- ==== Proof.Body.lean ====
module

public import proofs.«01_k».proof.Defs
public import proofs.«01_k».proof.Proof.Gen.KernelIdeal.Frame
public import Idealize.ShloMosaic.Lib.Claim
public import Idealize.ShloMosaic.Lib.Pipeline.Value
public import Idealize.ShloMosaic.Lib.Pointwise
public import Idealize.ShloMosaic.Lib.VecWindow

/-! What one grid step leaves in the output block: three columns replaced, each by its value before plus the
step's sums, and at the last step a fourth column. -/

@[expose] public section

set_option maxRecDepth 16384

noncomputable section

namespace Cert.KernelIdeal.Ece

open Idealize.ShloMosaic Idealize.ShloMosaic.TcCoe Idealize.SL.Sem Cert.KernelIdeal Cert.KernelIdeal.Gen

section Columns

variable {α : Type}

/-- Column `k` of a 16×128 block. -/
def col (k : Fin 128) (X : S16x128.Idx → α) : S16x1.Idx → α := fun i => X (ix2 (i 0) k)

/-- The block with column `k` replaced. -/
def setCol (k : Fin 128) (X : S16x128.Idx → α) (w : S16x1.Idx → α) : S16x128.Idx → α :=
  fun i => if (i 1).val = k.val then w (ix2 (i 0) 0) else X i

theorem col_setCol (k : Fin 128) (X : S16x128.Idx → α) (w : S16x1.Idx → α) : col k (setCol k X w) = w := by
  funext i
  obtain ⟨a, b, rfl⟩ : ∃ (a : Fin 16) (b : Fin 1), i = ix2 a b := ⟨i 0, i 1, eq_ix2 i⟩
  obtain rfl := Subsingleton.elim b 0
  exact if_pos rfl

theorem col_setCol_ne (k k' : Fin 128) (h : k ≠ k') (X : S16x128.Idx → α) (w : S16x1.Idx → α) :
    col k (setCol k' X w) = col k X := funext fun _ => if_neg fun e => h (Fin.ext e)

end Columns

section Stores

variable {F : FTy → Type}
variable (v : View sig .tc .vmem S16x128 .f32) (f : v.ty.Contents (Elt F))

theorem load_col (k : ℕ) (hk : k < 128) (inb : ∀ a, (![0, k] : Fin 2 → ℕ) a + (![16, 1] : Fin 2 → ℕ) a ≤ S16x128.size a) :
    v.readAt (Elt F) (Rect.unit (s := S16x128) ![0, k] ![16, 1] inb).toLoadRect f = col ⟨k, hk⟩ (v.read (Elt F) f) := by
  funext i
  refine congrArg (v.read (Elt F) f) (funext fun a => Fin.ext ?_)
  match a with
  | ⟨0, _⟩ => show 0 + 1 * (i 0).val = (i 0).val; omega
  | ⟨1, _⟩ =>
    show k + 1 * (i 1).val = k
    have : (i 1).val < 1 := (i 1).isLt
    omega

theorem store_col (k : ℕ) (hk : k < 128) (inb : ∀ a, (![0, k] : Fin 2 → ℕ) a + (![16, 1] : Fin 2 → ℕ) a ≤ S16x128.size a)
    (w : S16x1.Idx → Elt F .f32) (L : List (View.Piece (Elt F) S16x128 .f32)) :
    v.read (Elt F) (v.writes (Elt F) f (⟨Rect.unit (s := S16x128) ![0, k] ![16, 1] inb, w⟩ :: L))
      = setCol ⟨k, hk⟩ (v.read (Elt F) (v.writes (Elt F) f L)) w := by
  funext i
  unfold setCol
  by_cases h : (i 1).val = k
  · rw [if_pos h]
    refine View.read_writes_cons_unit_of_mem v f inb w L i (ix2 (i 0) 0) rfl fun a => ?_
    match a with
    | ⟨0, _⟩ => show (i 0).val = 0 + (i 0).val; omega
    | ⟨1, _⟩ => show (i 1).val = k + 0; exact h
  · rw [if_neg h]
    refine View.read_writes_cons_unit_of_not_mem v f inb w L i rfl (1 : Fin 2) ?_
    show (i 1).val < k ∨ k + 1 ≤ (i 1).val
    omega

end Stores

variable {F : FTy → Type} [FloatOps F] [Named F]

/-- The 16×32768 mask of the rows in each bin. -/
def mask (x : Vec F S56x32768 .f32) (b : Vec F S16x128 .f32) : IVec S16x32768 1 := k0_pay10 x (col 0 b) (col 1 b)

/-- The block after a step's three sums. -/
def step (x : Vec F S56x32768 .f32) (l : Vec F S1x1x32768 .i32) (b X : Vec F S16x128 .f32) : Vec F S16x128 .f32 :=
  setCol 2 (setCol 1 (setCol 0 X (k0_pay1 (mask x b) (FloatOps.ofBits .f32 0x3F800000#32) (FloatOps.ofBits .f32 0#32) (col 0 X)))
    (k0_pay2 (k0_pay8 x) (mask x b) (col 1 X))) (k0_pay3 (k0_pay9 x l) (mask x b) (col 2 X))

variable (c : Dev nD) (i : grid0.Coords) (a1 : Memref sig .tc .vmem S56x32768 .f32) (h1 : a1.IsWhole)
    (a2 : Memref sig .tc .vmem S1x1x32768 .i32) (h2 : a2.IsWhole) (a3 : Memref sig .tc .vmem S16x128 .f32) (h3 : a3.IsWhole)
    (a4 : Memref sig .tc .vmem S16x128 .f32) (h4 : a4.IsWhole)
    (x : Vec F S56x32768 .f32) (l : Vec F S1x1x32768 .i32) (b xo : Vec F S16x128 .f32)

omit [FloatOps F] [Named F] in
theorem load_x : View.readAt (Elt F) a1.view (Rect.unit (s := S56x32768) ![0, 0] ![56, 32768] inb_S56x32768_S56x32768_0_0).toLoadRect (h1.unread x) = x := by
  exact (View.readAt_full a1.view (h1.unread x) inb_S56x32768_S56x32768_0_0).trans (h1.read_unread x)

omit [FloatOps F] [Named F] in
theorem load_l : View.readAt (Elt F) a2.view (Rect.unit (s := S1x1x32768) ![0, 0, 0] ![1, 1, 32768] inb_S1x1x32768_S1x1x32768_0_0_0).toLoadRect (h2.unread l) = l := by
  exact (View.readAt_full a2.view (h2.unread l) inb_S1x1x32768_S1x1x32768_0_0_0).trans (h2.read_unread l)

theorem load_col0 (v : View sig .tc .vmem S16x128 .f32) (f : v.ty.Contents (Elt F)) (inb : ∀ a, (![0, 0] : Fin 2 → ℕ) a + (![16, 1] : Fin 2 → ℕ) a ≤ S16x128.size a) :
    v.readAt (Elt F) (Rect.unit (s := S16x128) ![0, 0] ![16, 1] inb).toLoadRect f = col 0 (v.read (Elt F) f) := load_col v f 0 (by decide) inb

theorem load_col1 (v : View sig .tc .vmem S16x128 .f32) (f : v.ty.Contents (Elt F)) (inb : ∀ a, (![0, 1] : Fin 2 → ℕ) a + (![16, 1] : Fin 2 → ℕ) a ≤ S16x128.size a) :
    v.readAt (Elt F) (Rect.unit (s := S16x128) ![0, 1] ![16, 1] inb).toLoadRect f = col 1 (v.read (Elt F) f) := load_col v f 1 (by decide) inb

theorem load_col2 (v : View sig .tc .vmem S16x128 .f32) (f : v.ty.Contents (Elt F)) (inb : ∀ a, (![0, 2] : Fin 2 → ℕ) a + (![16, 1] : Fin 2 → ℕ) a ≤ S16x128.size a) :
    v.readAt (Elt F) (Rect.unit (s := S16x128) ![0, 2] ![16, 1] inb).toLoadRect f = col 2 (v.read (Elt F) f) := load_col v f 2 (by decide) inb

theorem store_col0 (v : View sig .tc .vmem S16x128 .f32) (f : v.ty.Contents (Elt F)) (inb : ∀ a, (![0, 0] : Fin 2 → ℕ) a + (![16, 1] : Fin 2 → ℕ) a ≤ S16x128.size a)
    (w : S16x1.Idx → Elt F .f32) (L : List (View.Piece (Elt F) S16x128 .f32)) :
    v.read (Elt F) (v.writes (Elt F) f (⟨Rect.unit (s := S16x128) ![0, 0] ![16, 1] inb, w⟩ :: L))
      = setCol 0 (v.read (Elt F) (v.writes (Elt F) f L)) w := store_col v f 0 (by decide) inb w L

theorem store_col1 (v : View sig .tc .vmem S16x128 .f32) (f : v.ty.Contents (Elt F)) (inb : ∀ a, (![0, 1] : Fin 2 → ℕ) a + (![16, 1] : Fin 2 → ℕ) a ≤ S16x128.size a)
    (w : S16x1.Idx → Elt F .f32) (L : List (View.Piece (Elt F) S16x128 .f32)) :
    v.read (Elt F) (v.writes (Elt F) f (⟨Rect.unit (s := S16x128) ![0, 1] ![16, 1] inb, w⟩ :: L))
      = setCol 1 (v.read (Elt F) (v.writes (Elt F) f L)) w := store_col v f 1 (by decide) inb w L

theorem store_col2 (v : View sig .tc .vmem S16x128 .f32) (f : v.ty.Contents (Elt F)) (inb : ∀ a, (![0, 2] : Fin 2 → ℕ) a + (![16, 1] : Fin 2 → ℕ) a ≤ S16x128.size a)
    (w : S16x1.Idx → Elt F .f32) (L : List (View.Piece (Elt F) S16x128 .f32)) :
    v.read (Elt F) (v.writes (Elt F) f (⟨Rect.unit (s := S16x128) ![0, 2] ![16, 1] inb, w⟩ :: L))
      = setCol 2 (v.read (Elt F) (v.writes (Elt F) f L)) w := store_col v f 2 (by decide) inb w L

theorem store_col3 (v : View sig .tc .vmem S16x128 .f32) (f : v.ty.Contents (Elt F)) (inb : ∀ a, (![0, 3] : Fin 2 → ℕ) a + (![16, 1] : Fin 2 → ℕ) a ≤ S16x128.size a)
    (w : S16x1.Idx → Elt F .f32) (L : List (View.Piece (Elt F) S16x128 .f32)) :
    v.read (Elt F) (v.writes (Elt F) f (⟨Rect.unit (s := S16x128) ![0, 3] ![16, 1] inb, w⟩ :: L))
      = setCol 3 (v.read (Elt F) (v.writes (Elt F) f L)) w := store_col v f 3 (by decide) inb w L

theorem out_B (hc0 : ¬cond0_0 i) (hc1 : ¬cond0_1 i) :
    out0_B_3 c i a1 h1 a2 h2 a3 h3 a4 h4 hc0 hc1 x l b xo = step x l b xo := by
  unfold out0_B_3
  unfold kernelRun0_B
  dsimp only
  sl_unfold_words
  simp only [load_x, load_l, load_col0, load_col1, load_col2, h4.read_unread, h3.read_unread]
  rw [store_col2, store_col1, store_col0, View.writes_nil, h4.read_unread]
  rfl

theorem col0_step (X : Vec F S16x128 .f32) : col 0 (step x l b X) = k0_pay1 (mask x b) (FloatOps.ofBits .f32 0x3F800000#32) (FloatOps.ofBits .f32 0#32) (col 0 X) := by
  unfold step
  rw [col_setCol_ne _ _ (by decide), col_setCol_ne _ _ (by decide), col_setCol]

theorem col1_step (X : Vec F S16x128 .f32) : col 1 (step x l b X) = k0_pay2 (k0_pay8 x) (mask x b) (col 1 X) := by
  unfold step
  rw [col_setCol_ne _ _ (by decide), col_setCol]

theorem col2_step (X : Vec F S16x128 .f32) : col 2 (step x l b X) = k0_pay3 (k0_pay9 x l) (mask x b) (col 2 X) := by
  unfold step
  rw [col_setCol]

theorem out_C (hc0 : ¬cond0_0 i) (hc1 : cond0_1 i) :
    out0_C_3 c i a1 h1 a2 h2 a3 h3 a4 h4 hc0 hc1 x l b xo
      = setCol 3 (step x l b xo) (k0_pay4 (col 0 (step x l b xo)) (col 1 (step x l b xo)) (col 2 (step x l b xo))) := by
  unfold out0_C_3
  unfold kernelRun0_C
  dsimp only
  sl_unfold_words
  simp only [load_x, load_l, load_col0, load_col1, load_col2, h4.read_unread, h3.read_unread, View.readCov]
  simp only [store_col3, store_col2, store_col1, store_col0, View.writes_nil, h4.read_unread]
  rw [col0_step, col1_step, col2_step]
  rw [col_setCol_ne 0 2 (by decide), col_setCol_ne 0 1 (by decide), col_setCol, col_setCol_ne 1 2 (by decide),
    col_setCol, col_setCol]
  rfl

theorem store_full (v : View sig .tc .vmem S16x128 .f32) (f : v.ty.Contents (Elt F)) (inb : ∀ a, (![0, 0] : Fin 2 → ℕ) a + (![16, 128] : Fin 2 → ℕ) a ≤ S16x128.size a)
    (w : S16x128.Idx → Elt F .f32) (L : List (View.Piece (Elt F) S16x128 .f32)) :
    v.read (Elt F) (v.writes (Elt F) f (⟨Rect.unit (s := S16x128) ![0, 0] ![16, 128] inb, w⟩ :: L)) = w :=
  View.read_writes_full v f inb w L

theorem out_A (hc0 : cond0_0 i) (hc1 : ¬cond0_1 i) :
    out0_A_3 c i a1 h1 a2 h2 a3 h3 a4 h4 hc0 hc1 x l b = step x l b k0_pay5 := by
  unfold out0_A_3
  unfold kernelRun0_A
  dsimp only
  sl_unfold_words
  simp only [load_x, load_l, load_col0, load_col1, load_col2, h3.read_unread, View.readCov]
  simp only [store_col2, store_col1, store_col0, store_full]
  rw [col_setCol_ne 1 0 (by decide), col_setCol_ne 2 1 (by decide), col_setCol_ne 2 0 (by decide)]
  rfl

end Cert.KernelIdeal.Ece
-- ==== Proof.Acc.lean ====
module

public import proofs.«01_k».proof.Proof.Payloads
public import proofs.«01_k».proof.Proof.Body

/-! What the three columns of the output block hold after each grid step: sums over the lanes of the blocks so far. -/

@[expose] public section

set_option maxRecDepth 16384

noncomputable section

namespace Cert.KernelIdeal.Ece

open Idealize.ShloMosaic Idealize.ShloMosaic.TcCoe Idealize.SL.Sem Cert.KernelIdeal Cert.KernelIdeal.Gen
open Cert.Ece

/-- A value `f l` of every lane whose confidence lies in the bin, summed. -/
def laneSum (lo up : EReal) (x : Vec Ideal S56x32768 .f32) (f : Fin 32768 → EReal) : EReal :=
  ∑ l, if Hit lo up (kconf (lane x l)) then f l else 0

/-- 1 for a lane whose label is a top class, 0 for another. -/
def laneRight (x : Vec Ideal S56x32768 .f32) (l : Vec Ideal S1x1x32768 .i32) (i : Fin 32768) : EReal :=
  if kright (lane x i) (l (ix3 0 0 i)) then 1 else 0

variable (x : Vec Ideal S56x32768 .f32) (l : Vec Ideal S1x1x32768 .i32) (b X : Vec Ideal S16x128 .f32) (k : Fin 16)

theorem mask_at (i : Fin 32768) :
    mask x b (ix2 k i) = BitVec.ofBool (decide (Hit (b (ix2 k 0)) (b (ix2 k 1)) (kconf (lane x i)))) :=
  pay10_at x (col 0 b) (col 1 b) k i

theorem col0_step_at : step x l b X (ix2 k 0)
    = X (ix2 k 0) + laneSum (b (ix2 k 0)) (b (ix2 k 1)) x fun _ => 1 := by
  have e := congrFun (col0_step x l b X) (ix2 k 0)
  refine e.trans ((pay1_at _ _ _ _ k).trans ?_)
  refine congrArg (X (ix2 k 0) + ·) (Finset.sum_congr rfl fun i _ => ?_)
  rw [mask_at, select_ofBool]
  exact if_congr Iff.rfl Ideal.ofBits_one_f32 Ideal.ofBits_zero_f32

theorem col1_step_at : step x l b X (ix2 k 1)
    = X (ix2 k 1) + laneSum (b (ix2 k 0)) (b (ix2 k 1)) x fun i => kconf (lane x i) := by
  have e := congrFun (col1_step x l b X) (ix2 k 0)
  refine e.trans ((pay2_at _ _ _ k).trans ?_)
  refine congrArg (X (ix2 k 1) + ·) (Finset.sum_congr rfl fun i _ => ?_)
  rw [mask_at, select_ofBool, pay8_at]

theorem col2_step_at : step x l b X (ix2 k 2)
    = X (ix2 k 2) + laneSum (b (ix2 k 0)) (b (ix2 k 1)) x (laneRight x l) := by
  have e := congrFun (col2_step x l b X) (ix2 k 0)
  refine e.trans ((pay3_at _ _ _ k).trans ?_)
  refine congrArg (X (ix2 k 2) + ·) (Finset.sum_congr rfl fun i _ => ?_)
  rw [mask_at, select_ofBool, pay9_at]
  rfl

/-- The value of column `q` (0 count, 1 confidence, 2 accuracy) at one lane. -/
def val (q : Fin 3) (i : Fin 32768) : EReal :=
  match q with
  | 0 => 1
  | 1 => kconf (lane x i)
  | 2 => laneRight x l i

theorem step_at (q : Fin 3) : step x l b X (ix2 k (q.castLE (by decide)))
    = X (ix2 k (q.castLE (by decide))) + laneSum (b (ix2 k 0)) (b (ix2 k 1)) x (val x l q) :=
  match q with
  | 0 => col0_step_at x l b X k
  | 1 => col1_step_at x l b X k
  | 2 => col2_step_at x l b X k

variable (m : (ℓ : Loc nD τ sig) → Buf (Elt Ideal) ℓ) (c : Dev nD)

/-- The three input blocks at a grid step. -/
abbrev xb (t : Fin cfg0.N) : Vec Ideal S56x32768 .f32 := iblk m c 0 t
abbrev lb (t : Fin cfg0.N) : Vec Ideal S1x1x32768 .i32 := iblk m c 1 t
abbrev bb (t : Fin cfg0.N) : Vec Ideal S16x128 .f32 := iblk m c 2 t

/-- What grid step `t` adds to row `k` of column `q`. -/
def part (q : Fin 3) (t : Fin cfg0.N) : EReal :=
  laneSum (bb m c t (ix2 k 0)) (bb m c t (ix2 k 1)) (xb m c t) (val (xb m c t) (lb m c t) q)

def partN (q : Fin 3) (n : ℕ) : EReal := if h : n < cfg0.N then part k m c q ⟨n, h⟩ else 0

theorem partN_of (q : Fin 3) (n : ℕ) (h : n < cfg0.N) : partN k m c q n = part k m c q ⟨n, h⟩ := dif_pos h

/-- The block before the fourth column is written, at a grid step past the first. -/
theorem outs_at (q : Fin 3) : ∀ (n : ℕ) (h : n < cfg0.N),
    (outsAt0 m c n h : Vec Ideal S16x128 .f32) (ix2 k (q.castLE (by decide))) = ∑ t ∈ Finset.range (n + 1), partN k m c q t
  | 0, h => by
    rw [Finset.sum_range_one, partN_of k m c q 0 h]
    refine (congrFun ((outsAt0_A m c ⟨0, h⟩ rfl (by dsimp only; omega)).trans (out_A ..)) _).trans ?_
    refine (step_at _ _ _ _ k q).trans ?_
    rw [pay5_at, zero_add]
    rfl
  | n + 1, h => by
    have hN : cfg0.N = 31 := N_0
    have h0 : ¬(⟨n + 1, h⟩ : Fin cfg0.N).val % 31 = 0 := by dsimp only; omega
    have e : (outsAt0 m c (n + 1) h : Vec Ideal S16x128 .f32) (ix2 k (q.castLE (by decide)))
        = step (xb m c ⟨n + 1, h⟩) (lb m c ⟨n + 1, h⟩) (bb m c ⟨n + 1, h⟩) (outsAt0 m c n (by omega)) (ix2 k (q.castLE (by decide))) := by
      by_cases h1 : (⟨n + 1, h⟩ : Fin cfg0.N).val % 31 = 30
      · refine (congrFun ((outsAt0_C m c ⟨n + 1, h⟩ h0 h1).trans (out_C ..)) _).trans ?_
        refine if_neg ?_
        show ¬ q.val = 3
        omega
      · exact congrFun ((outsAt0_B m c ⟨n + 1, h⟩ h0 h1).trans (out_B ..)) _
    rw [e, step_at, outs_at q n, Finset.sum_range_succ _ (n + 1), partN_of k m c q (n + 1) h]
    rfl

/-- Row `k` of column `q` at the end. -/
def total (q : Fin 3) : EReal := ∑ t ∈ Finset.range 31, partN k m c q t

/-- The fourth column at the end. -/
theorem last_at (h : 30 < cfg0.N) : (outsAt0 m c 30 h : Vec Ideal S16x128 .f32) (ix2 k 3)
    = ∑ b' : Fin 16, binTerm (total b' m c 0) (total b' m c 1) (total b' m c 2) := by
  have h0 : ¬(⟨30, h⟩ : Fin cfg0.N).val % 31 = 0 := by dsimp only; omega
  have e := (outsAt0_C m c ⟨30, h⟩ h0 rfl).trans (out_C ..)
  have e' (q : Fin 3) (b' : Fin 16) : step (xb m c ⟨30, h⟩) (lb m c ⟨30, h⟩) (bb m c ⟨30, h⟩) (outsAt0 m c 29 (by omega)) (ix2 b' (q.castLE (by decide)))
      = total b' m c q := by
    refine Eq.trans ?_ (outs_at b' m c q 30 h)
    refine ((congrFun e _).trans (if_neg ?_)).symm
    show ¬ q.val = 3
    omega
  refine (congrFun e _).trans ((if_pos rfl).trans ((pay4_at _ _ _ k).trans ?_))
  refine Finset.sum_congr rfl fun b' _ => ?_
  exact congr (congr (congrArg binTerm (e' 0 b')) (e' 1 b')) (e' 2 b')

end Cert.KernelIdeal.Ece
-- ==== Proof.Blocks.lean ====
module

public import proofs.«01_k».proof.Proof.Acc

/-! The input blocks of a grid step, in terms of the program's two arguments and the table of bin bounds. -/

@[expose] public section

set_option maxRecDepth 16384

noncomputable section

namespace Cert.KernelIdeal.Ece

open Idealize.ShloMosaic Idealize.ShloMosaic.TcCoe Idealize.SL.Sem Cert.KernelIdeal Cert.KernelIdeal.Gen
open Cert.Ece

theorem index0 : ∀ t : Fin cfg0.N, win0_0.index t 0 = 0 ∧ win0_0.index t 1 = t.val := by decide +kernel

theorem index1 : ∀ t : Fin cfg0.N, win0_1.index t 0 = t.val ∧ win0_1.index t 1 = 0 ∧ win0_1.index t 2 = 0 := by decide +kernel

theorem index2 : ∀ t : Fin cfg0.N, win0_2.index t 0 = 0 ∧ win0_2.index t 1 = 0 := by decide +kernel

variable (m : (ℓ : Loc nD τ sig) → Buf (Elt Ideal) ℓ) (c : Dev nD)

theorem lt_cols (t : Fin cfg0.N) (i : Fin 32768) : t.val * 32768 + i.val < 1015808 := by
  have h := t.isLt
  have hN : cfg0.N = 31 := N_0
  omega

/-- The scores as the kernel finds them: transposed, with six rows and 15808 columns of −∞ after them. -/
def scores (A : FVec Ideal S1000000x50 .f32) : FVec Ideal S56x1015808 .f32 :=
  pad S56x1015808 ![0, 0] ![6, 15808] ![0, 0] (transpose S50x1000000 [1, 0] A transposes_S1000000x50_S50x1000000_1_0)
    (constant (F := Ideal) S_ .f32 0xFF800000#32) pads_S50x1000000_S56x1015808_060_0158080 h_S_

/-- The labels as the kernel finds them. -/
def labels (L : IVec S1000000 32) : IVec S31x1x32768 32 :=
  shapeCast S31x1x32768 (pad S1015808 ![0] ![15808] ![0] L (constantI S_ 32 0#32) pads_S1000000_S1015808_0158080 h_S_)
    shapeCasts_S1015808_S31x1x32768

/-- The table of bin bounds. -/
def table : FVec Ideal S16x128 .f32 := fun i => FloatOps.ofBits .f32 (lit0 (S16x128.rowMajor i))

theorem V_v1 : V m c main_v1 = scores (m ((c : Thread nD τ).loc main_arg0)) := by
  entry_read
  rfl

theorem V_v3 : V m c main_v3 = labels (m ((c : Thread nD τ).loc main_arg1)) := by
  entry_read
  rfl

theorem V_cst : V m c main_cst = table := by
  entry_read
  rfl

theorem scores_at (A : FVec Ideal S1000000x50 .f32) (j : Fin 56) (n : Fin 1015808) :
    scores A (ix2 j n) = if h : n.val < 1000000 then padded (fun k => A (ix2 ⟨n.val, h⟩ k)) j else ⊥ := by
  pointwise [scores]
  unfold padded
  by_cases hn : n.val < 1000000
  · by_cases hj : j.val < 50
    · rw [dif_pos ⟨hj, hn⟩, dif_pos hn, dif_pos hj]
    · rw [dif_neg fun h => hj h.1, dif_pos hn, dif_neg hj, neg_inf]
  · rw [dif_neg fun h => hn h.2, dif_neg hn, neg_inf]

theorem labels_at (L : IVec S1000000 32) (t : Fin 31) (i : Fin 32768) (h : t.val * 32768 + i.val < 1000000) :
    labels L (ix3 t 0 i) = L (ix1 ⟨t.val * 32768 + i.val, h⟩) := by
  pointwise [labels]
  rw [dif_pos h]

theorem xb_at (t : Fin cfg0.N) (j : Fin 56) (i : Fin 32768) :
    xb m c t (ix2 j i) = V m c main_v1 (ix2 j ⟨t.val * 32768 + i.val, lt_cols t i⟩) := by
  unfold xb iblk
  rw [View.read_apply]
  refine congrArg (V m c main_v1) (funext fun a => Fin.ext ?_)
  match a with
  | ⟨0, _⟩ => show win0_0.index t 0 * 56 + 1 * j.val = j.val; rw [(index0 t).1]; omega
  | ⟨1, _⟩ => show win0_0.index t 1 * 32768 + 1 * i.val = t.val * 32768 + i.val; rw [(index0 t).2]; omega

theorem lb_at (t : Fin cfg0.N) (i : Fin 32768) :
    lb m c t (ix3 0 0 i) = V m c main_v3 (ix3 (t.cast N_0) 0 i) := by
  unfold lb iblk
  rw [View.read_apply]
  refine congrArg (V m c main_v3) (funext fun a => Fin.ext ?_)
  match a with
  | ⟨0, _⟩ => show win0_1.index t 0 * 1 + 1 * 0 = t.val; rw [(index1 t).1]; omega
  | ⟨1, _⟩ => show win0_1.index t 1 * 1 + 1 * 0 = 0; rw [(index1 t).2.1]
  | ⟨2, _⟩ => show win0_1.index t 2 * 32768 + 1 * i.val = i.val; rw [(index1 t).2.2]; omega

theorem bb_at (t : Fin cfg0.N) (k : Fin 16) (q : Fin 128) :
    bb m c t (ix2 k q) = V m c main_cst (ix2 k q) := by
  unfold bb iblk
  rw [View.read_apply]
  refine congrArg (V m c main_cst) (funext fun a => Fin.ext ?_)
  match a with
  | ⟨0, _⟩ => show win0_2.index t 0 * 16 + 1 * k.val = k.val; rw [(index2 t).1]; omega
  | ⟨1, _⟩ => show win0_2.index t 1 * 128 + 1 * q.val = q.val; rw [(index2 t).2]; omega

/-- Row `n` of the scores. -/
def row (A : FVec Ideal S1000000x50 .f32) (n : Fin 1000000) (k : Fin 50) : EReal := A (ix2 n k)

/-- What row `n` counts for in column `q` (0 count, 1 confidence, 2 accuracy). -/
def worth (A : FVec Ideal S1000000x50 .f32) (L : IVec S1000000 32) (q : Fin 3) (n : Fin 1000000) : EReal :=
  match q with
  | 0 => 1
  | 1 => kconf (padded (row A n))
  | 2 => if kright (padded (row A n)) (L (ix1 n)) then 1 else 0

/-- The same where row `n` lies in the bin, 0 where it does not. -/
def inBin (lo up : EReal) (A : FVec Ideal S1000000x50 .f32) (L : IVec S1000000 32) (q : Fin 3) (n : Fin 1000000) : EReal :=
  if Hit lo up (kconf (padded (row A n))) then worth A L q n else 0

def inBinN (lo up : EReal) (A : FVec Ideal S1000000x50 .f32) (L : IVec S1000000 32) (q : Fin 3) (n : ℕ) : EReal :=
  if h : n < 1000000 then inBin lo up A L q ⟨n, h⟩ else 0

/-- The arguments. -/
abbrev argA : FVec Ideal S1000000x50 .f32 := m ((c : Thread nD τ).loc main_arg0)
abbrev argL : IVec S1000000 32 := m ((c : Thread nD τ).loc main_arg1)

theorem lane_real (t : Fin cfg0.N) (i : Fin 32768) (h : t.val * 32768 + i.val < 1000000) :
    lane (xb m c t) i = padded (row (argA m c) ⟨t.val * 32768 + i.val, h⟩) := by
  funext j
  refine (xb_at m c t j i).trans ((congrFun (V_v1 m c) _).trans ((scores_at _ j _).trans ?_))
  rw [dif_pos h]
  rfl

theorem lane_pad (t : Fin cfg0.N) (i : Fin 32768) (h : ¬t.val * 32768 + i.val < 1000000) (j : Fin 56) :
    lane (xb m c t) i j = ⊥ := by
  refine (xb_at m c t j i).trans ((congrFun (V_v1 m c) _).trans ((scores_at _ j _).trans ?_))
  rw [dif_neg h]

theorem lb_real (t : Fin cfg0.N) (i : Fin 32768) (h : t.val * 32768 + i.val < 1000000) :
    lb m c t (ix3 0 0 i) = argL m c (ix1 ⟨t.val * 32768 + i.val, h⟩) :=
  (lb_at m c t i).trans ((congrFun (V_v3 m c) _).trans (labels_at _ (t.cast N_0) i h))

theorem val_real (t : Fin cfg0.N) (i : Fin 32768) (h : t.val * 32768 + i.val < 1000000) (q : Fin 3) :
    val (xb m c t) (lb m c t) q i = worth (argA m c) (argL m c) q ⟨t.val * 32768 + i.val, h⟩ := by
  match q with
  | 0 => rfl
  | 1 => exact congrArg kconf (lane_real m c t i h)
  | 2 =>
    show laneRight _ _ _ = _
    unfold laneRight
    rw [lane_real m c t i h, lb_real m c t i h]
    rfl

theorem term_eq (t : Fin cfg0.N) (i : Fin 32768) (q : Fin 3) (lo up : EReal) (hlo : 0 ≤ lo) :
    (if Hit lo up (kconf (lane (xb m c t) i)) then val (xb m c t) (lb m c t) q i else 0)
      = inBinN lo up (argA m c) (argL m c) q (t.val * 32768 + i.val) := by
  unfold inBinN inBin
  by_cases h : t.val * 32768 + i.val < 1000000
  · rw [dif_pos h, lane_real m c t i h, val_real m c t i h]
  · rw [dif_neg h, kconf_bot _ (lane_pad m c t i h)]
    exact if_neg fun e => absurd e.1 (not_lt.mpr hlo)

theorem part_eq (k : Fin 16) (q : Fin 3) (t : ℕ) (ht : t < 31) (hlo : 0 ≤ table (ix2 k 0)) :
    partN k m c q t = ∑ i ∈ Finset.range 32768,
      inBinN (table (ix2 k 0)) (table (ix2 k 1)) (argA m c) (argL m c) q (t * 32768 + i) := by
  have hN : t < cfg0.N := lt_of_lt_of_eq ht N_0.symm
  rw [partN_of k m c q t hN, Finset.sum_range]
  have e0 := (bb_at m c ⟨t, hN⟩ k 0).trans (congrFun (V_cst m c) _)
  have e1 := (bb_at m c ⟨t, hN⟩ k 1).trans (congrFun (V_cst m c) _)
  unfold part laneSum
  rw [e0, e1]
  exact Finset.sum_congr rfl fun i _ => term_eq m c ⟨t, hN⟩ i q _ _ hlo

theorem sum_blocks (f : ℕ → EReal) (B : ℕ) : ∀ T : ℕ,
    ∑ t ∈ Finset.range T, ∑ i ∈ Finset.range B, f (t * B + i) = ∑ n ∈ Finset.range (T * B), f n
  | 0 => by simp
  | T + 1 => by rw [Finset.sum_range_succ, sum_blocks f B T, Nat.succ_mul, Finset.sum_range_add]

/-- Row `k` of column `q` at the end: the sum over the rows of the scores that lie in bin `k`. -/
theorem total_eq (k : Fin 16) (q : Fin 3) (hlo : 0 ≤ table (ix2 k 0)) :
    total k m c q = ∑ n, inBin (table (ix2 k 0)) (table (ix2 k 1)) (argA m c) (argL m c) q n := by
  unfold total
  rw [Finset.sum_congr rfl fun t ht => part_eq m c k q t (Finset.mem_range.mp ht) hlo, sum_blocks,
    show 31 * 32768 = 1000000 + 15808 from rfl, Finset.sum_range_add, Finset.sum_range]
  rw [Finset.sum_eq_zero (s := Finset.range 15808) fun i _ => dif_neg (by omega), add_zero]
  exact Finset.sum_congr rfl fun n _ => dif_pos n.isLt

end Cert.KernelIdeal.Ece
-- ==== Proof.Bounds.lean ====
module

public import proofs.«01_k».proof.Proof.Blocks

/-! The two tables of bin bounds agree: the kernel's first fifteen rows hold the reference's neighbouring edges, and
its sixteenth row starts above every confidence. -/

@[expose] public section

set_option maxRecDepth 16384

noncomputable section

namespace Cert.KernelIdeal.Ece

open Idealize.ShloMosaic Idealize.ShloMosaic.TcCoe Idealize.SL.Sem Cert.KernelIdeal Cert.KernelIdeal.Gen
open Cert.Ece

/-- Edge `k` of the bins. -/
def edge (k : Fin 16) : EReal := Ideal.ofBits .f32 (Cert.ReferenceIdeal.lit0 k)

/-- A word without a sign bit and below the infinities is not negative. -/
theorem ofBits_nonneg (w : BitVec 32) (h : w.toNat < 0x7F800000) : (0 : EReal) ≤ Ideal.ofBits .f32 w := by
  have hs : (w.extractLsb' 31 1 == 1#1) = false := by
    rw [beq_eq_false_iff_ne]
    intro e
    have := congrArg BitVec.toNat e
    rw [BitVec.extractLsb'_toNat, Nat.shiftRight_eq_div_pow] at this
    norm_num at this
    omega
  have hx : ¬ (w.extractLsb' 23 8).toNat = 2 ^ 8 - 1 := by
    rw [BitVec.extractLsb'_toNat, Nat.shiftRight_eq_div_pow]
    norm_num
    omega
  show (0 : EReal) ≤ Ideal.ieee 8 23 w
  unfold Ideal.ieee
  dsimp only
  rw [if_neg hx, hs]
  split
  · exact EReal.coe_nonneg.mpr (by simp only [Bool.false_eq_true, if_false]; positivity)
  · exact EReal.coe_nonneg.mpr (by simp only [Bool.false_eq_true, if_false]; positivity)

theorem edge_word : ∀ k : Fin 16, (Cert.ReferenceIdeal.lit0 k).toNat < 0x7F800000 := by decide +kernel

theorem edge_nonneg (k : Fin 16) : 0 ≤ edge k := ofBits_nonneg _ (edge_word k)

theorem rowMajor_at (k : Fin 16) (q : Fin 128) : S16x128.rowMajor (ix2 k q) = (⟨k.val * 128 + q.val, by omega⟩ : Fin 2048) :=
  Fin.ext (Shape.rowMajor_val_two _)

theorem lo_word : ∀ k : Fin 15, lit0 (⟨k.val * 128, by omega⟩ : Fin 2048) = Cert.ReferenceIdeal.lit0 k.castSucc := by decide +kernel

theorem up_word : ∀ k : Fin 15, lit0 (⟨k.val * 128 + 1, by omega⟩ : Fin 2048) = Cert.ReferenceIdeal.lit0 k.succ := by decide +kernel

theorem last_word : lit0 (⟨15 * 128, by omega⟩ : Fin 2048) = 0x40000000#32 := by decide +kernel

theorem table_lo (k : Fin 15) : table (ix2 k.castSucc 0) = edge k.castSucc := by
  unfold table edge
  rw [rowMajor_at]
  exact congrArg (Ideal.ofBits .f32) (lo_word k)

theorem table_up (k : Fin 15) : table (ix2 k.castSucc 1) = edge k.succ := by
  unfold table edge
  rw [rowMajor_at]
  exact congrArg (Ideal.ofBits .f32) (up_word k)

theorem table_last : table (ix2 15 0) = 2 := by
  unfold table
  rw [rowMajor_at]
  refine (congrArg (Ideal.ofBits .f32) last_word).trans ?_
  simp [Ideal.ofBits, Ideal.ieee, -EReal.coe_mul]
  norm_num
  rfl

theorem table_nonneg (k : Fin 16) : 0 ≤ table (ix2 k 0) := by
  refine k.lastCases ?_ fun k => ?_
  · exact table_last.symm ▸ by norm_num
  · rw [table_lo]
    exact edge_nonneg _

end Cert.KernelIdeal.Ece
-- ==== Proof.KernelValue.lean ====
module

public import proofs.«01_k».proof.Proof.Bounds

/-! The kernel program's result: the sum over fifteen bins of each bin's term, over the rows of the scores. -/

@[expose] public section

set_option maxRecDepth 16384

noncomputable section

namespace Cert.KernelIdeal.Ece

open Idealize.ShloMosaic Idealize.ShloMosaic.TcCoe Idealize.SL.Sem Cert.KernelIdeal Cert.KernelIdeal.Gen
open Cert.Ece

/-- Column `q` of bin `k`. -/
def binSum (A : FVec Ideal S1000000x50 .f32) (L : IVec S1000000 32) (q : Fin 3) (k : Fin 15) : EReal :=
  ∑ n, inBin (edge k.castSucc) (edge k.succ) A L q n

/-- The calibration error as the kernel sums it. -/
def kernelEce (A : FVec Ideal S1000000x50 .f32) (L : IVec S1000000 32) : EReal :=
  ∑ k : Fin 15, binTerm (binSum A L 0 k) (binSum A L 1 k) (binSum A L 2 k)

/-- A bin that starts at 2 counts no row: no confidence is above 1. -/
theorem binTerm_high (A : FVec Ideal S1000000x50 .f32) (L : IVec S1000000 32) (up s a : EReal) :
    binTerm (∑ n, inBin 2 up A L 0 n) s a = 0 := by
  have h : ∑ n, inBin 2 up A L 0 n = 0 := Finset.sum_eq_zero fun n _ => if_neg fun e => by
    have h1 := e.1.trans_le ((kconf_padded _).trans_le (kconf_le _))
    exact absurd h1 (by norm_num)
  unfold binTerm
  rw [h]
  exact if_neg (lt_irrefl _)

variable (m : (ℓ : Loc nD τ sig) → Buf (Elt Ideal) ℓ) (c : Dev nD)

theorem last_eq (k : Fin 16) (h : 30 < cfg0.N) :
    (outsAt0 m c 30 h : Vec Ideal S16x128 .f32) (ix2 k 3) = kernelEce (argA m c) (argL m c) := by
  rw [last_at, Fin.sum_univ_castSucc]
  simp only [total_eq m c _ _ (table_nonneg _)]
  have e : table (ix2 (Fin.last 15) 0) = 2 := table_last
  rw [e, binTerm_high, add_zero]
  refine Finset.sum_congr rfl fun k _ => ?_
  rw [table_lo, table_up]
  rfl

theorem lt30 : 30 < cfg0.N := lt_of_lt_of_eq (by decide) N_0.symm

/-- The last grid step. -/
abbrev t30 : Fin cfg0.N := ⟨30, lt30⟩

/-- The output array at the end. -/
abbrev result : Buf (Elt Ideal) ((c : Thread nD τ).loc main_v4) := outsAt0 m c 30 lt30

theorem index3 : ∀ t : Fin cfg0.N, win0_3.index t 0 = 0 ∧ win0_3.index t 1 = 0 := by decide +kernel

theorem flushed_eq (t : Fin cfg0.N) (hf : (cfg0.win 3).flush t = true) :
    (dats m 0 c).flushed 3 t = ((cfg0.win 3).blk t).view.read (Elt Ideal) (result m c) := by
  have hN : cfg0.N = 31 := N_0
  have h3 : t.val = 30 := by have := (flush0_3 t).mp hf; have := t.isLt; omega
  obtain rfl : t = t30 := Fin.ext h3
  show (cfg0.win 3).cut (grid0.coords t30) ((dats m 0 c).after 3 t30) = _
  rw [after0_3]
  have hz : (fun a => win0_3.index t30 a * main_v4.ty.shape.size a) = fun _ => 0 := funext fun a =>
    match a with
    | ⟨0, _⟩ => by show win0_3.index t30 0 * _ = 0; rw [(index3 t30).1, Nat.zero_mul]
    | ⟨1, _⟩ => by show win0_3.index t30 1 * _ = 0; rw [(index3 t30).2, Nat.zero_mul]
  exact (Memref.read_access_unit_zero (Elt Ideal) main_v4 hz (fun a => by rw [congrFun hz a]; simp) (result m c)).symm

theorem final_out : (dats m 0 c).arrAt 3 cfg0.N = result m c :=
  (dats m 0 c).arrAt_eq_of_cover 3 (result m c) (flushed_eq m c) fun i =>
    ⟨t30, (flush0_3 t30).mpr rfl, by
      show i ∈ ((View.whole main_v4).slice (win0_3.rect t30)).set
      rw [View.set_slice_whole, Rect.mem_set_unit]
      intro a
      have h0 : (i 0 : Nat) < 16 := (i 0).isLt
      have h1 : (i 1 : Nat) < 128 := (i 1).isLt
      match a with
      | ⟨0, _⟩ =>
        show win0_3.index t30 0 * 16 ≤ (i 0 : Nat) ∧ (i 0 : Nat) < win0_3.index t30 0 * 16 + 16
        rw [(index3 t30).1]; omega
      | ⟨1, _⟩ =>
        show win0_3.index t30 1 * 128 ≤ (i 1 : Nat) ∧ (i 1 : Nat) < win0_3.index t30 1 * 128 + 128
        rw [(index3 t30).2]; omega⟩

/-- The host's reading of the result: entry (0, 3) of the output array. -/
theorem tail_at (X : FVec Ideal S16x128 .f32) (i : S1.Idx) :
    shapeCast S1 (shapeCast S_ (extractStridedSlice S1x1 ![0, 3] X slices_S16x128_S1x1_0_3) shapeCasts_S1x1_S_) shapeCasts_S_S1 i
      = X (ix2 0 3) := by
  pointwise

theorem tail_eq : Pipeline.afterTail₀ cfgs (dats m) 0 (V0 m) [hostOps1] c main_v7
    = fun _ => kernelEce (argA m c) (argL m c) := by
  unfold Pipeline.afterTail₀
  have e : Pipeline.withArrays (cfgs 0).spec c (V0 m c) (fun w => (dats m 0 c).arrAt w (cfgs 0).N) (Proc.devRef .tc main_v4)
      = result m c :=
    (Pipeline.withArrays_arr spec0 (by decide) c (V0 m c) (fun w => (dats m 0 c).arrAt w cfg0.N) 3).trans (final_out m c)
  generalize Pipeline.withArrays (cfgs 0).spec c (V0 m c) (fun w => (dats m 0 c).arrAt w (cfgs 0).N) = W at e ⊢
  show StableHlo.after [_, _, _] W _ = _
  after_results
  rw [e]
  funext i
  exact (tail_at (result m c) i).trans (last_eq m c 0 lt30)

/-- Every run of the kernel program ends with the calibration error, its arguments as they were. -/
theorem kernel_run (g : Dev nD → PrngReg) : θ_run defs (onTc (τ := τ) (main (F := Ideal))) ⟨m, fun _ => 0, g⟩ fun r => ∀ c : Dev nD,
    r.2.mem ((c : Thread nD τ).loc main_v7) = (fun _ => kernelEce (argA m c) (argL m c))
      ∧ r.2.mem ((c : Thread nD τ).loc main_arg0) = m ((c : Thread nD τ).loc main_arg0)
      ∧ r.2.mem ((c : Thread nD τ).loc main_arg1) = m ((c : Thread nD τ).loc main_arg1) := by
  run_from Cert.KernelIdeal.Gen.run_main m g
  · exact tail_eq m c
  · exact W_main_arg0 m (dats m) c
  · exact W_main_arg1 m (dats m) c

end Cert.KernelIdeal.Ece
-- ==== Proof.RefStages.lean ====
module

public import proofs.«01_k».proof.Proof.KernelValue
public import proofs.«01_k».proof.Proof.Gen.ReferenceIdeal

/-! The reference's values, stage by stage, at one index over the extended reals. -/

@[expose] public section

set_option maxRecDepth 16384

noncomputable section

namespace Cert.ReferenceIdeal.Ece

open Idealize.ShloMosaic Idealize.ShloMosaic.TcCoe Idealize.SL.Sem Cert.ReferenceIdeal
open Cert.Ece Cert.KernelIdeal.Ece Cert.ReferenceIdeal.Facts₀ Cert.ReferenceIdeal.Facts

abbrev Scores := FVec Ideal S1000000x50 .f32
abbrev Rows := FVec Ideal S1000000 .f32
abbrev Bins := FVec Ideal S15 .f32

/-- A value of each row, along the row. -/
def spread (v : Rows) : Scores :=
  broadcastInDim S1000000x50 ![0, 1] bcast_S1000000x1_S1000000x50_0_1 (broadcastInDim S1000000x1 ![0] bcast_S1000000_S1000000x1_0 v)

/-- A value of each row, under every bin. -/
def under (v : Rows) : FVec Ideal S15x1000000 .f32 :=
  broadcastInDim S15x1000000 ![0, 1] bcast_S1x1000000_S15x1000000_0_1 (broadcastInDim S1x1000000 ![1] bcast_S1000000_S1x1000000_1 v)

/-- A value of each bin, over every row. -/
def over (v : Bins) : FVec Ideal S15x1000000 .f32 :=
  broadcastInDim S15x1000000 ![0, 1] bcast_S15x1_S15x1000000_0_1 (broadcastInDim S15x1 ![0] bcast_S15_S15x1_0 v)

/-- The greatest entry of each row. -/
def most (x : Scores) : Rows :=
  Host.reduce FloatOps.maximumf x (constant (F := Ideal) S_ .f32 0xFF800000#32) reducesTo_S1000000x50_S1000000_d1 h_S_

def expd (x : Scores) : Scores :=
  Host.exp (subf x (spread (maximumf (broadcastInDim S1000000 ![] bcast_S_S1000000 (constant (F := Ideal) S_ .f32 0xFF800000#32)) (most x))))

def probs (x : Scores) : Scores :=
  Host.divf (expd x) (spread (Host.reduceAdd (expd x) (constant (F := Ideal) S_ .f32 0x00000000#32) reducesTo_S1000000x50_S1000000_d1 h_S_))

/-- Each row's greatest entry with its class. -/
def best (x : Scores) : S1000000.Idx → Ideal .f32 × BitVec 32 := fun j =>
  Host.argReduce reducer_argmax_f32_i32 x (iotaInDim S1000000x50 32 1) (constant (F := Ideal) S_ .f32 0xFF800000#32) (constantI S_ 32 0#32)
    reducesTo_S1000000x50_S1000000_d1 h_S_ j

def pred (x : Scores) : IVec S1000000 32 := fun j => (best x j).2

def acc (p : IVec S1000000 32) (y : IVec S1000000 32) : Rows := uitofp .f32 (cmpi .eq p y)

def edges : FVec Ideal S16 .f32 := fun i => FloatOps.ofBits .f32 (lit0 (S16.rowMajor i))

def hits (conf : Rows) : FVec Ideal S15x1000000 .f32 :=
  uitofp .f32 (andi (cmpf .ogt (under conf) (over (extractStridedSlice S15 ![0] edges slices_S16_S15_0)))
    (cmpf .ole (under conf) (over (extractStridedSlice S15 ![1] edges slices_S16_S15_1))))

def sums (h : FVec Ideal S15x1000000 .f32) : Bins :=
  Host.reduceAdd h (constant (F := Ideal) S_ .f32 0x00000000#32) reducesTo_S15x1000000_S15_d1 h_S_

def splat (w : BitVec 32) : Bins := broadcastInDim S15 ![] bcast_S_S15 (constant (F := Ideal) S_ .f32 w)

def terms (n s a : Bins) : Bins :=
  select (cmpf .ogt n (splat 0x00000000#32))
    (mulf (Host.absf (subf (Host.divf s (maximumf n (splat 0x3F800000#32))) (Host.divf a (maximumf n (splat 0x3F800000#32)))))
      (Host.divf n (splat 0x49742400#32)))
    (splat 0x00000000#32)

def whole (t : Bins) : FVec Ideal S1 .f32 :=
  shapeCast S1 (Host.reduceAdd t (constant (F := Ideal) S_ .f32 0x00000000#32) reducesTo_S15_S_d0 h_S_) shapeCasts_S_S1

/-- The whole reference. -/
def ece (x : Scores) (y : IVec S1000000 32) : FVec Ideal S1 .f32 :=
  whole (terms (sums (hits (most (probs x)))) (sums (mulf (hits (most (probs x))) (under (most (probs x)))))
    (sums (mulf (hits (most (probs x))) (under (acc (pred (probs x)) y)))))

theorem spread_at (v : Rows) (n : Fin 1000000) (k : Fin 50) : spread v (ix2 n k) = v (ix1 n) := by
  pointwise [spread]

theorem under_at (v : Rows) (b : Fin 15) (n : Fin 1000000) : under v (ix2 b n) = v (ix1 n) := by
  pointwise [under]

theorem over_at (v : Bins) (b : Fin 15) (n : Fin 1000000) : over v (ix2 b n) = v (ix1 b) := by
  pointwise [over]

theorem most_at (x : Scores) (n : Fin 1000000) : most x (ix1 n) = top (row x n) := by
  pointwise [most]
  rw [neg_inf]
  rfl

theorem floor_at (M : Rows) (n : Fin 1000000) :
    maximumf (broadcastInDim S1000000 ![] bcast_S_S1000000 (constant (F := Ideal) S_ .f32 0xFF800000#32)) M (ix1 n) = max ⊥ (M (ix1 n)) := by
  pointwise
  rw [neg_inf]

theorem exp_at (x v : Scores) (n : Fin 1000000) (k : Fin 50) :
    Host.exp (subf x v) (ix2 n k) = Ideal.exp (x (ix2 n k) - v (ix2 n k)) := by
  pointwise

theorem expd_at (x : Scores) (n : Fin 1000000) (k : Fin 50) :
    expd x (ix2 n k) = Ideal.exp (row x n k - max ⊥ (top (row x n))) := by
  refine (exp_at x _ n k).trans ?_
  rw [spread_at, floor_at, most_at]
  rfl

theorem sum_at (E : Scores) (n : Fin 1000000) :
    Host.reduceAdd E (constant (F := Ideal) S_ .f32 0x00000000#32) reducesTo_S1000000x50_S1000000_d1 h_S_ (ix1 n) = ∑ k, E (ix2 n k) := by
  pointwise

theorem div_at (x v : Scores) (n : Fin 1000000) (k : Fin 50) :
    Host.divf x v (ix2 n k) = Ideal.div (x (ix2 n k)) (v (ix2 n k)) := by
  pointwise

theorem probs_at (x : Scores) (n : Fin 1000000) (k : Fin 50) : probs x (ix2 n k) = share (row x n) k := by
  refine (div_at _ _ n k).trans ?_
  rw [spread_at, sum_at, expd_at]
  simp only [expd_at]
  rfl

theorem probs_row (x : Scores) (n : Fin 1000000) : row (probs x) n = share (row x n) := funext fun k => probs_at x n k

theorem conf_at (x : Scores) (n : Fin 1000000) : most (probs x) (ix1 n) = rconf (row x n) := by
  rw [most_at, probs_row]
  rfl

theorem bit_eq (p q : BitVec 32) : FloatOps.uitofp (F := Ideal) .f32 (IntOp.cmpi .eq p q) = if p = q then (1 : EReal) else 0 := by
  by_cases h : p = q
  · subst h
    simp [IntOp.cmpi, FloatOps.uitofp]
  · simp [IntOp.cmpi, FloatOps.uitofp, h]

theorem bit_hit (lo up c : EReal) : FloatOps.uitofp (F := Ideal) .f32 (IntOp.andi (BitVec.ofBool (decide (lo < c))) (BitVec.ofBool (decide (c ≤ up))))
    = if Hit lo up c then (1 : EReal) else 0 := by
  unfold Hit
  by_cases h : lo < c <;> by_cases h' : c ≤ up <;> simp [h, h', IntOp.andi, FloatOps.uitofp]

theorem acc_at (p y : IVec S1000000 32) (n : Fin 1000000) : acc p y (ix1 n) = if p (ix1 n) = y (ix1 n) then 1 else 0 := by
  pointwise [acc]
  exact bit_eq _ _

theorem edges_at (k : Fin 16) : edges (ix1 k) = edge k := by
  unfold edges edge
  have e : S16.rowMajor (ix1 k) = k := Fin.ext (Shape.rowMajor_val_one _)
  rw [e]
  rfl

theorem lo_at (b : Fin 15) : extractStridedSlice S15 ![0] edges slices_S16_S15_0 (ix1 b) = edge b.castSucc := by
  refine Eq.trans ?_ (edges_at b.castSucc)
  generalize edges = e
  pointwise
  rfl

theorem up_at (b : Fin 15) : extractStridedSlice S15 ![1] edges slices_S16_S15_1 (ix1 b) = edge b.succ := by
  refine Eq.trans ?_ (edges_at b.succ)
  generalize edges = e
  pointwise
  exact congrArg e (congrArg ix1 (Fin.ext (Nat.add_comm _ _)))

theorem inside_at (C L U : FVec Ideal S15x1000000 .f32) (b : Fin 15) (n : Fin 1000000) :
    (uitofp .f32 (andi (cmpf .ogt C L) (cmpf .ole C U)) : FVec Ideal S15x1000000 .f32) (ix2 b n)
      = if Hit (L (ix2 b n)) (U (ix2 b n)) (C (ix2 b n)) then 1 else 0 := by
  pointwise
  exact bit_hit _ _ _

theorem hits_at (conf : Rows) (b : Fin 15) (n : Fin 1000000) :
    hits conf (ix2 b n) = if Hit (edge b.castSucc) (edge b.succ) (conf (ix1 n)) then 1 else 0 := by
  refine (inside_at _ _ _ b n).trans ?_
  rw [under_at, over_at, over_at, lo_at, up_at]

theorem mul_at (x y : FVec Ideal S15x1000000 .f32) (b : Fin 15) (n : Fin 1000000) : mulf x y (ix2 b n) = x (ix2 b n) * y (ix2 b n) := by
  pointwise

theorem sums_at (h : FVec Ideal S15x1000000 .f32) (b : Fin 15) : sums h (ix1 b) = ∑ n, h (ix2 b n) := by
  pointwise [sums]

theorem terms_at (n s a : Bins) (b : Fin 15) : terms n s a (ix1 b) = binTerm (n (ix1 b)) (s (ix1 b)) (a (ix1 b)) := by
  pointwise [terms, splat]
  rfl

theorem whole_at (t : Bins) (i : S1.Idx) : whole t i = ∑ b : Fin 15, t (ix1 b) := by
  pointwise [whole]

end Cert.ReferenceIdeal.Ece
-- ==== Proof.RefArg.lean ====
module

public import proofs.«01_k».proof.Proof.RefStages

/-! The reference's arg-max: the first class with the row's greatest probability. -/

@[expose] public section

set_option maxRecDepth 16384

noncomputable section

namespace Cert.ReferenceIdeal.Ece

open Idealize.ShloMosaic Idealize.ShloMosaic.TcCoe Idealize.SL.Sem Cert.ReferenceIdeal
open Cert.Ece Cert.KernelIdeal.Ece Cert.ReferenceIdeal.Facts₀ Cert.ReferenceIdeal.Facts

/-- `r` is at or before `p`: a greater value, or the same value at an index no greater. -/
def Best (r p : EReal × BitVec 32) : Prop := p.1 < r.1 ∨ (p.1 = r.1 ∧ r.2.toInt ≤ p.2.toInt)

theorem Best.refl (r : EReal × BitVec 32) : Best r r := Or.inr ⟨rfl, le_rfl⟩

theorem Best.trans {a b c : EReal × BitVec 32} (h : Best a b) (h' : Best b c) : Best a c := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

theorem reducer_eq (a b : EReal × BitVec 32) : reducer_argmax_f32_i32 (F := Ideal) a b
    = (if b.1 < a.1 then a.1 else b.1, if b.1 < a.1 ∨ (a.1 = b.1 ∧ a.2.toInt < b.2.toInt) then a.2 else b.2) := by
  have hs : IntOp.cmpi .slt a.2 b.2 = BitVec.ofBool (decide (a.2.toInt < b.2.toInt)) := rfl
  unfold reducer_argmax_f32_i32
  dsimp only
  rw [hs]
  simp only [Ideal.cmpf_def, Ideal.cmp]
  by_cases h1 : b.1 < a.1 <;> by_cases h2 : a.1 = b.1 <;> by_cases h3 : a.2.toInt < b.2.toInt <;>
    simp [h1, h2, h3, IntOp.ori, IntOp.andi, Scalar.select]

theorem reducer_best (a b : EReal × BitVec 32) :
    (reducer_argmax_f32_i32 (F := Ideal) a b = a ∨ reducer_argmax_f32_i32 (F := Ideal) a b = b)
      ∧ Best (reducer_argmax_f32_i32 (F := Ideal) a b) a ∧ Best (reducer_argmax_f32_i32 (F := Ideal) a b) b := by
  rw [reducer_eq]
  obtain ⟨a1, a2⟩ := a
  obtain ⟨b1, b2⟩ := b
  unfold Best
  dsimp only
  by_cases h1 : b1 < a1
  · simp [h1]
  · rw [if_neg h1]
    by_cases h2 : a1 = b1
    · subst h2
      by_cases h3 : a2.toInt < b2.toInt
      · simp [h3, h3.le]
      · simp [h3, not_lt.mp h3]
    · have h4 : a1 < b1 := lt_of_le_of_ne (not_lt.mp h1) h2
      simp [h1, h2, h4]

theorem fold_best (l : List (EReal × BitVec 32)) : ∀ i : EReal × BitVec 32,
    (l.foldl (reducer_argmax_f32_i32 (F := Ideal)) i = i ∨ l.foldl (reducer_argmax_f32_i32 (F := Ideal)) i ∈ l)
      ∧ Best (l.foldl (reducer_argmax_f32_i32 (F := Ideal)) i) i ∧ ∀ p ∈ l, Best (l.foldl (reducer_argmax_f32_i32 (F := Ideal)) i) p := by
  induction l with
  | nil => exact fun i => ⟨Or.inl rfl, Best.refl i, fun p hp => absurd hp List.not_mem_nil⟩
  | cons q l ih =>
    intro i
    obtain ⟨h1, h2, h3⟩ := ih (reducer_argmax_f32_i32 (F := Ideal) i q)
    obtain ⟨g1, g2, g3⟩ := reducer_best i q
    rw [List.foldl_cons]
    refine ⟨?_, h2.trans g2, fun p hp => ?_⟩
    · rcases h1 with h1 | h1
      · rw [h1]
        exact g1.imp id fun e => by rw [e]; exact List.mem_cons_self
      · exact Or.inr (List.mem_cons_of_mem _ h1)
    · rcases List.mem_cons.mp hp with rfl | hp
      · exact h2.trans g3
      · exact h3 p hp

theorem drop_at (n : Fin 1000000) (k : Fin 50) : (reducesTo_S1000000x50_S1000000_d1).drop (ix2 n k) = ix1 n := by
  funext a
  obtain rfl := Subsingleton.elim a 0
  exact Fin.ext rfl

/-- The classes of a row with their values, in order. -/
def classes (p : Scores) (n : Fin 1000000) : List (EReal × BitVec 32) :=
  Host.argReduceFiber p (iotaInDim S1000000x50 32 1) reducesTo_S1000000x50_S1000000_d1 (ix1 n)

theorem mem_classes (p : Scores) (n : Fin 1000000) (q : EReal × BitVec 32) :
    q ∈ classes p n ↔ ∃ k : Fin 50, q = (row p n k, BitVec.ofNat 32 k.val) := by
  unfold classes Host.argReduceFiber
  rw [List.mem_map]
  constructor
  · rintro ⟨i, hi, rfl⟩
    have hd := of_decide_eq_true (List.mem_filter.mp hi).2
    obtain ⟨a, k, e⟩ : ∃ (a : Fin 1000000) (k : Fin 50), S1000000x50.rowMajor.symm i = ix2 a k := ⟨_, _, eq_ix2 _⟩
    rw [e, drop_at] at hd
    obtain rfl : a = n := congrFun hd 0
    exact ⟨k, by rw [e]; rfl⟩
  · rintro ⟨k, rfl⟩
    refine ⟨S1000000x50.rowMajor (ix2 n k), List.mem_filter.mpr ⟨List.mem_finRange _, ?_⟩, ?_⟩
    · rw [Equiv.symm_apply_apply, drop_at]
      exact decide_eq_true rfl
    · rw [Equiv.symm_apply_apply]
      rfl

theorem toInt_small : ∀ k : Fin 50, (BitVec.ofNat 32 k.val).toInt = k.val := by decide

theorem pred_of (p : Scores) (u : FVec Ideal S_ .f32) (v : IVec S_ 32) (n : Fin 1000000) :
    Host.argReduce reducer_argmax_f32_i32 p (iotaInDim S1000000x50 32 1) u v reducesTo_S1000000x50_S1000000_d1 h_S_ (ix1 n)
      = (classes p n).foldl (reducer_argmax_f32_i32 (F := Ideal)) (u (Shape.Idx.first h_S_), v (Shape.Idx.first h_S_)) := by
  rw [Ideal.argReduce_eq_reduce2, Host.reduce2_eq_foldl_fiber]
  unfold classes
  with_reducible rfl

theorem bottom_at (i : S_.Idx) : constant (F := Ideal) S_ .f32 0xFF800000#32 i = (⊥ : EReal) := neg_inf

theorem zero_at (i : S_.Idx) : constantI S_ 32 0#32 i = 0#32 := rfl

theorem best_eq (p : Scores) (n : Fin 1000000) :
    best p (ix1 n) = (classes p n).foldl (reducer_argmax_f32_i32 (F := Ideal)) (⊥, 0#32) := by
  unfold best
  refine (pred_of p _ _ n).trans ?_
  rw [bottom_at, zero_at]

theorem arg_of (x : Fin 50 → EReal) (l : List (EReal × BitVec 32)) (hm : ∀ q, q ∈ l ↔ ∃ k : Fin 50, q = (x k, BitVec.ofNat 32 k.val))
    (r : EReal × BitVec 32) (hr : r = l.foldl (reducer_argmax_f32_i32 (F := Ideal)) (⊥, 0#32)) : IsArg x r.2 := by
  obtain ⟨h1, h2, h3⟩ := fold_best l (⊥, 0#32)
  rw [← hr] at h1 h2 h3
  have h (j : Fin 50) : Best r (x j, BitVec.ofNat 32 j.val) := h3 _ ((hm _).mpr ⟨j, rfl⟩)
  rcases h1 with h1 | h1
  · refine Or.inr fun j => ?_
    rw [h1] at h
    rcases h j with g | g
    · exact absurd g not_lt_bot
    · exact g.1
  · obtain ⟨k, rfl⟩ := (hm r).mp h1
    refine Or.inl ⟨k, rfl, fun j => ?_⟩
    refine (h j).imp id fun g => ⟨g.1, ?_⟩
    have := g.2
    rw [toInt_small, toInt_small] at this
    exact_mod_cast this

theorem best_arg (p : Scores) (n : Fin 1000000) : IsArg (row p n) (best p (ix1 n)).2 := by
  have hm := mem_classes p n
  have hr := best_eq p n
  generalize best p (ix1 n) = r at hr ⊢
  generalize classes p n = l at hm hr
  exact arg_of (row p n) l hm r hr

theorem pred_fun (p : Scores) : pred p = fun j => (best p j).2 := by
  delta pred
  with_reducible rfl

theorem pred_arg (p : Scores) (n : Fin 1000000) : IsArg (row p n) (pred p (ix1 n)) := by
  rw [pred_fun]
  exact best_arg p n

end Cert.ReferenceIdeal.Ece
-- ==== Proof.RefRun.lean ====
module

public import proofs.«01_k».proof.Proof.RefArg
public import Idealize.ShloMosaic.Lib.Quiescent

/-! Every run of the reference ends with its composed value, its arguments as they were. -/

@[expose] public section

set_option maxRecDepth 16384

noncomputable section

namespace Cert.ReferenceIdeal.Ece

open Idealize.ShloMosaic Idealize.ShloMosaic.TcCoe Idealize.SL.Sem Cert.ReferenceIdeal

set_option maxRecDepth 200000 in
set_option maxHeartbeats 16000000 in
theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v51) = ece (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1) := by
  hlo_run
  delta ece whole terms sums hits acc pred best most probs expd over under spread splat edges
  dsimp only [StableHlo.TRef.toBuf, StableHlo.TRef.ofBuf, cast_eq, id]
  refine (funext fun i => ?_ : (fun i => shapeCast S1 _ _ i) = _)
  refine congrFun (congrArg (fun t => shapeCast S1 t _) ?_) i
  refine congrArg (fun t => Host.reduceAdd t _ _ _) ?_
  congr

end Cert.ReferenceIdeal.Ece
-- ==== Proof.Pre.lean ====
module

public import proofs.«01_k».proof.Proof.RefRun
public import proofs.«01_k».proof.Proof.Gen.Pre_label_first_on_top
public import Idealize.ShloMosaic.Lib.Routing.OpsOrder

/-! What the precondition says of each row. -/

@[expose] public section

set_option maxRecDepth 16384

noncomputable section

namespace Cert.Pre_label_first_on_top.Ece

open Idealize.ShloMosaic Cert.Pre_label_first_on_top
open Cert.Ece Cert.KernelIdeal.Ece Cert.Pre_label_first_on_top.Facts

variable [Facts]

abbrev Scores := FVec Ideal S1000000x50 .f32
abbrev Labels := IVec S1000000 32
abbrev Flags := IVec S1000000x50 1

/-- A value of each row, along the row. -/
def along {α : Type} (v : S1000000.Idx → α) : S1000000x50.Idx → α :=
  broadcastInDim S1000000x50 ![0, 1] bcast_S1000000x1_S1000000x50_0_1 (broadcastInDim S1000000x1 ![0] bcast_S1000000_S1000000x1_0 v)

/-- The greatest logit of each row. -/
def most (A : Scores) : FVec Ideal S1000000 .f32 :=
  Host.reduce FloatOps.maximumf A (constant (F := Ideal) S_ .f32 0xFF800000#32) reducesTo_S1000000x50_S1000000_d1 h_S_

/-- Whether some flag of the row is set. -/
def some (f : Flags) : IVec S1000000 1 := Host.reduce IntOp.ori f (constantI S_ 1 0#1) reducesTo_S1000000x50_S1000000_d1 h_S_

/-- The label's class, when its logit is the row's greatest. -/
def marked (A : Scores) (L : Labels) : Flags := andi (cmpi .eq (iotaInDim S1000000x50 32 1) (along L)) (cmpf .oeq A (along (most A)))

/-- The classes that the precondition allows beside a label on top: not before it, or below the top. -/
def allowed (A : Scores) (L : Labels) : Flags := ori (cmpi .sge (iotaInDim S1000000x50 32 1) (along L)) (cmpf .olt A (along (most A)))

def unmarked (s : IVec S1000000 1) : Flags :=
  broadcastInDim S1000000x50 ![0, 1] bcast_S1000000x1_S1000000x50_0_1 (noti (broadcastInDim S1000000x1 ![0] bcast_S1000000_S1000000x1_0 s))

theorem fn_eq (A : Scores) (L : Labels) : fn (F := Ideal) A L = ori (allowed A L) (unmarked (some (marked A L))) := by
  delta fn allowed unmarked some marked along most
  with_reducible rfl

theorem along_at {α : Type} (v : S1000000.Idx → α) (n : Fin 1000000) (k : Fin 50) : along v (ix2 n k) = v (ix1 n) := by
  pointwise [along]

theorem most_at (A : Scores) (n : Fin 1000000) : most A (ix1 n) = top (row A n) := by
  pointwise [most]
  rw [neg_inf]
  rfl

theorem marked_of (A M : Scores) (B : IVec S1000000x50 32) (n : Fin 1000000) (k : Fin 50) :
    andi (cmpi .eq (iotaInDim S1000000x50 32 1) B) (cmpf .oeq A M) (ix2 n k) = 1#1
      ↔ BitVec.ofNat 32 k.val = B (ix2 n k) ∧ A (ix2 n k) = M (ix2 n k) := by
  pointwise
  by_cases h' : A (ix2 n k) = M (ix2 n k)
  · by_cases h : BitVec.ofNat 32 k.val = B (ix2 n k)
    · simp [h, h', IntOp.andi, IntOp.cmpi]
    · simp [h, beq_eq_false_iff_ne.mpr h, h', IntOp.andi, IntOp.cmpi]
  · simp [h', IntOp.andi]

theorem allowed_of (A M : Scores) (B : IVec S1000000x50 32) (n : Fin 1000000) (k : Fin 50) :
    ori (cmpi .sge (iotaInDim S1000000x50 32 1) B) (cmpf .olt A M) (ix2 n k) = 1#1
      ↔ (B (ix2 n k)).toInt ≤ (BitVec.ofNat 32 k.val).toInt ∨ A (ix2 n k) < M (ix2 n k) := by
  pointwise
  by_cases h : (B (ix2 n k)).toInt ≤ (BitVec.ofNat 32 k.val).toInt <;> by_cases h' : A (ix2 n k) < M (ix2 n k) <;> simp [h, h', IntOp.ori, IntOp.cmpi, BitVec.sle]

theorem some_at (f : Flags) (n : Fin 1000000) : some f (ix1 n) = 1#1 ↔ ∃ k : Fin 50, f (ix2 n k) = 1#1 := by
  pointwise [some]
  rw [Routing.fold_ori]
  simp

theorem unmarked_at (s : IVec S1000000 1) (n : Fin 1000000) (k : Fin 50) (h : s (ix1 n) = 1#1) : unmarked s (ix2 n k) = 0#1 := by
  pointwise [unmarked]
  rw [h]
  rfl

theorem or_at (f g : Flags) (n : Fin 1000000) (k : Fin 50) (h : g (ix2 n k) = 0#1) : ori f g (ix2 n k) = f (ix2 n k) := by
  pointwise
  rw [h]
  simp [IntOp.ori]

theorem toInt_small : ∀ k : Fin 50, (BitVec.ofNat 32 k.val).toInt = k.val := by decide

/-- No class before a label's shares with it the row's greatest logit. -/
theorem label_first (A : Scores) (L : Labels) (h : fn (F := Ideal) A L = fun _ => 1#1) (n : Fin 1000000) : LabelFirst (row A n) (L (ix1 n)) := by
  intro j hj htop i hij
  have hm : some (marked A L) (ix1 n) = 1#1 := by
    refine (some_at _ n).mpr ⟨j, (marked_of A _ _ n j).mpr ⟨?_, ?_⟩⟩
    · rw [along_at]
      exact hj
    · rw [along_at, most_at]
      exact htop
  have ha : allowed A L (ix2 n i) = 1#1 := by
    rw [← or_at (allowed A L) _ n i (unmarked_at _ n i hm), ← fn_eq, h]
  rcases (allowed_of A _ _ n i).mp ha with g | g
  · rw [along_at, ← hj, toInt_small, toInt_small] at g
    exact absurd (Int.ofNat_le.mp g) (Nat.not_le.mpr hij)
  · rw [along_at, most_at] at g
    exact g

end Cert.Pre_label_first_on_top.Ece
-- ==== Proof.Equation.lean ====
module

public import proofs.«01_k».proof.Proof.Pre

/-! The reference's value is the kernel's, when no class before a label's shares the row's greatest logit with it. -/

@[expose] public section

set_option maxRecDepth 16384

noncomputable section

namespace Cert.ReferenceIdeal.Ece

open Idealize.ShloMosaic Cert.ReferenceIdeal
open Cert.Ece Cert.KernelIdeal.Ece

variable (A : Scores) (L : IVec S1000000 32)

/-- A row's share of a bin, in the reference and in the kernel. -/
theorem hit_row (hp : ∀ n : Fin 1000000, LabelFirst (row A n) (L (ix1 n))) (k : Fin 15) (n : Fin 1000000) :
    (Hit (edge k.castSucc) (edge k.succ) (rconf (row A n)) ↔ Hit (edge k.castSucc) (edge k.succ) (kconf (padded (row A n))))
      ∧ (Hit (edge k.castSucc) (edge k.succ) (kconf (padded (row A n))) → rconf (row A n) = kconf (padded (row A n))
        ∧ (pred (probs A) (ix1 n) = L (ix1 n) ↔ kright (padded (row A n)) (L (ix1 n)))) :=
  row_hit (row A n) (L (ix1 n)) (pred (probs A) (ix1 n)) (hp n) (probs_row A n ▸ pred_arg (probs A) n) _ _ (edge_nonneg _)

theorem count_eq (hp : ∀ n : Fin 1000000, LabelFirst (row A n) (L (ix1 n))) (k : Fin 15) :
    sums (hits (most (probs A))) (ix1 k) = binSum A L 0 k := by
  rw [sums_at]
  refine Finset.sum_congr rfl fun n _ => ?_
  rw [hits_at, conf_at]
  exact if_congr (hit_row A L hp k n).1 rfl rfl

theorem conf_eq (hp : ∀ n : Fin 1000000, LabelFirst (row A n) (L (ix1 n))) (k : Fin 15) :
    sums (mulf (hits (most (probs A))) (under (most (probs A)))) (ix1 k) = binSum A L 1 k := by
  rw [sums_at]
  refine Finset.sum_congr rfl fun n _ => ?_
  obtain ⟨h1, h2⟩ := hit_row A L hp k n
  rw [mul_at, under_at, hits_at, conf_at]
  unfold inBin
  by_cases h : Hit (edge k.castSucc) (edge k.succ) (kconf (padded (row A n)))
  · rw [if_pos h, if_pos (h1.mpr h), one_mul]
    exact (h2 h).1
  · rw [if_neg h, if_neg fun g => h (h1.mp g), zero_mul]

theorem right_eq (hp : ∀ n : Fin 1000000, LabelFirst (row A n) (L (ix1 n))) (k : Fin 15) :
    sums (mulf (hits (most (probs A))) (under (acc (pred (probs A)) L))) (ix1 k) = binSum A L 2 k := by
  rw [sums_at]
  refine Finset.sum_congr rfl fun n _ => ?_
  obtain ⟨h1, h2⟩ := hit_row A L hp k n
  rw [mul_at, under_at, hits_at, conf_at, acc_at]
  unfold inBin
  by_cases h : Hit (edge k.castSucc) (edge k.succ) (kconf (padded (row A n)))
  · rw [if_pos h, if_pos (h1.mpr h), one_mul]
    exact if_congr (h2 h).2 rfl rfl
  · rw [if_neg h, if_neg fun g => h (h1.mp g), zero_mul]

/-- The two values agree. -/
theorem ece_eq (hp : ∀ n : Fin 1000000, LabelFirst (row A n) (L (ix1 n))) : ece A L = fun _ => kernelEce A L := by
  funext i
  unfold ece
  rw [whole_at]
  refine Finset.sum_congr rfl fun k _ => ?_
  rw [terms_at, count_eq A L hp, conf_eq A L hp, right_eq A L hp]

end Cert.ReferenceIdeal.Ece
-- ==== Proof.lean ====
module

public import proofs.«01_k».proof.Defs
public import proofs.«01_k».proof.Proof.Gen.Kernel.Frame
public import proofs.«01_k».proof.Proof.Gen.KernelIdeal.Frame
public import proofs.«01_k».proof.Proof.Equation
public import Idealize.ShloMosaic.Lib.Claim
public import Idealize.ShloMosaic.Lib.Quiescent
public import Idealize.ShloMosaic.Adequacy
public import Idealize.ShloMosaic.Init

/-! The claim, from the kernel's run, the reference's run and their equation. -/

@[expose] public section

noncomputable section

namespace Cert.Proof

open Idealize.ShloMosaic Idealize.SL.Sem

/-- The reference runs and leaves its arguments as they were. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Ece.reference_run m g)

/-- The kernel and the reference, over the extended reals, end with the same calibration error. -/
theorem algebraic : Cert.algebraic_KernelIdeal_ReferenceIdeal_pre_label_first_on_top (hKernelIdeal := Cert.KernelIdeal.Gen.facts)
    (hReferenceIdeal := Cert.ReferenceIdeal.Gen.facts) (hPre_label_first_on_top := Cert.Pre_label_first_on_top.Gen.facts) := by
  intro m g m' g' hpre hargs
  refine ⟨fun c _ => Cert.KernelIdeal.Ece.kernelEce (Cert.KernelIdeal.Ece.argA m c) (Cert.KernelIdeal.Ece.argL m c),
    Cert.KernelIdeal.Ece.kernel_run m g,
    (θ_run _ _ _).mono (fun r h c => ⟨(h c).1.trans ?_, (h c).2⟩) (Cert.ReferenceIdeal.Ece.reference_run m' g')⟩
  rw [(hargs c).1, (hargs c).2]
  exact Cert.ReferenceIdeal.Ece.ece_eq _ _ (Cert.Pre_label_first_on_top.Ece.label_first _ _ (hpre c))

theorem claim : Cert.Claim :=
  ⟨Cert.Kernel.Gen.facts, Cert.KernelIdeal.Gen.facts, Cert.ReferenceIdeal.Gen.facts, Cert.Pre_label_first_on_top.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement Cert.KernelIdeal.κ "log2e" .f32 0x3FB8AA3B#32 _ rfl,
    algebraic⟩

end Cert.Proof

end
